-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S2x384x112x112 : Shape := ⟨4, ![2, 384, 112, 112]⟩
abbrev S768x384 : Shape := ⟨2, ![768, 384]⟩
abbrev S768 : Shape := ⟨1, ![768]⟩
abbrev S384x384 : Shape := ⟨2, ![384, 384]⟩
abbrev S384 : Shape := ⟨1, ![384]⟩
abbrev S1 : Shape := ⟨1, ![1]⟩
abbrev S768x768 : Shape := ⟨2, ![768, 768]⟩
abbrev S384x768 : Shape := ⟨2, ![384, 768]⟩
abbrev S_ : Shape := ⟨0, ![]⟩

class Facts : Prop where
  bcast_S_S2x384x112x112 : S_.BroadcastsInDim S2x384x112x112 (![] : Fin 0 → Fin S2x384x112x112.rank)
  bcast_S_S768x384 : S_.BroadcastsInDim S768x384 (![] : Fin 0 → Fin S768x384.rank)
  bcast_S_S768 : S_.BroadcastsInDim S768 (![] : Fin 0 → Fin S768.rank)
  bcast_S_S384x384 : S_.BroadcastsInDim S384x384 (![] : Fin 0 → Fin S384x384.rank)
  bcast_S_S384 : S_.BroadcastsInDim S384 (![] : Fin 0 → Fin S384.rank)
  bcast_S_S768x768 : S_.BroadcastsInDim S768x768 (![] : Fin 0 → Fin S768x768.rank)
  bcast_S_S384x768 : S_.BroadcastsInDim S384x768 (![] : Fin 0 → Fin S384x768.rank)

variable [Facts]

def fn_part1 {F : FTy → Type} [FloatOps F] (main_arg8 : FVec F S384 .f32) (main_arg9 : FVec F S768x768 .f32) (main_arg10 : FVec F S768 .f32) (main_arg11 : FVec F S384x768 .f32) (main_arg12 : FVec F S384 .f32) (main_v2 : IVec S2x384x112x112 1) (main_v5 : IVec S768x384 1) (main_v8 : IVec S768 1) (main_v11 : IVec S384x384 1) (main_v14 : IVec S384 1) (main_v17 : IVec S384 1) : IVec S2x384x112x112 1 × IVec S768x384 1 × IVec S768 1 × IVec S384x384 1 × IVec S384 1 × IVec S384 1 × IVec S384 1 × IVec S768x768 1 × IVec S768 1 × IVec S384x768 1 × IVec S384 1 :=
  let main_v18 : FVec F S384 .f32 := Host.absf main_arg8
  let main_cst_5 : FVec F S_ .f32 := constant S_ .f32 0x7F800000#32
  let main_v19 : FVec F S384 .f32 := broadcastInDim S384 ![] bcast_S_S384 main_cst_5
  let main_v20 : IVec S384 1 := cmpf .olt main_v18 main_v19
  let main_v21 : FVec F S768x768 .f32 := Host.absf main_arg9
  let main_cst_6 : FVec F S_ .f32 := constant S_ .f32 0x7F800000#32
  let main_v22 : FVec F S768x768 .f32 := broadcastInDim S768x768 ![] bcast_S_S768x768 main_cst_6
  let main_v23 : IVec S768x768 1 := cmpf .olt main_v21 main_v22
  let main_v24 : FVec F S768 .f32 := Host.absf main_arg10
  let main_cst_7 : FVec F S_ .f32 := constant S_ .f32 0x7F800000#32
  let main_v25 : FVec F S768 .f32 := broadcastInDim S768 ![] bcast_S_S768 main_cst_7
  let main_v26 : IVec S768 1 := cmpf .olt main_v24 main_v25
  let main_v27 : FVec F S384x768 .f32 := Host.absf main_arg11
  let main_cst_8 : FVec F S_ .f32 := constant S_ .f32 0x7F800000#32
  let main_v28 : FVec F S384x768 .f32 := broadcastInDim S384x768 ![] bcast_S_S384x768 main_cst_8
  let main_v29 : IVec S384x768 1 := cmpf .olt main_v27 main_v28
  let main_v30 : FVec F S384 .f32 := Host.absf main_arg12
  let main_cst_9 : FVec F S_ .f32 := constant S_ .f32 0x7F800000#32
  let main_v31 : FVec F S384 .f32 := broadcastInDim S384 ![] bcast_S_S384 main_cst_9
  let main_v32 : IVec S384 1 := cmpf .olt main_v30 main_v31
  (main_v2, main_v5, main_v8, main_v11, main_v14, main_v17, main_v20, main_v23, main_v26, main_v29, main_v32)

def fn {F : FTy → Type} [FloatOps F] (main_arg0 : FVec F S2x384x112x112 .f32) (main_arg1 : FVec F S768x384 .f32) (main_arg2 : FVec F S768 .f32) (main_arg3 : FVec F S384x384 .f32) (main_arg4 : FVec F S384 .f32) (main_arg5 : FVec F S1 .f32) (main_arg6 : FVec F S1 .f32) (main_arg7 : FVec F S384 .f32) (main_arg8 : FVec F S384 .f32) (main_arg9 : FVec F S768x768 .f32) (main_arg10 : FVec F S768 .f32) (main_arg11 : FVec F S384x768 .f32) (main_arg12 : FVec F S384 .f32) (main_arg13 : FVec F S384 .f32) (main_arg14 : FVec F S384 .f32) : IVec S2x384x112x112 1 × IVec S768x384 1 × IVec S768 1 × IVec S384x384 1 × IVec S384 1 × IVec S384 1 × IVec S384 1 × IVec S768x768 1 × IVec S768 1 × IVec S384x768 1 × IVec S384 1 :=
  let main_v0 : FVec F S2x384x112x112 .f32 := Host.absf main_arg0
  let main_cst : FVec F S_ .f32 := constant S_ .f32 0x7F800000#32
  let main_v1 : FVec F S2x384x112x112 .f32 := broadcastInDim S2x384x112x112 ![] bcast_S_S2x384x112x112 main_cst
  let main_v2 : IVec S2x384x112x112 1 := cmpf .olt main_v0 main_v1
  let main_v3 : FVec F S768x384 .f32 := Host.absf main_arg1
  let main_cst_0 : FVec F S_ .f32 := constant S_ .f32 0x7F800000#32
  let main_v4 : FVec F S768x384 .f32 := broadcastInDim S768x384 ![] bcast_S_S768x384 main_cst_0
  let main_v5 : IVec S768x384 1 := cmpf .olt main_v3 main_v4
  let main_v6 : FVec F S768 .f32 := Host.absf main_arg2
  let main_cst_1 : FVec F S_ .f32 := constant S_ .f32 0x7F800000#32
  let main_v7 : FVec F S768 .f32 := broadcastInDim S768 ![] bcast_S_S768 main_cst_1
  let main_v8 : IVec S768 1 := cmpf .olt main_v6 main_v7
  let main_v9 : FVec F S384x384 .f32 := Host.absf main_arg3
  let main_cst_2 : FVec F S_ .f32 := constant S_ .f32 0x7F800000#32
  let main_v10 : FVec F S384x384 .f32 := broadcastInDim S384x384 ![] bcast_S_S384x384 main_cst_2
  let main_v11 : IVec S384x384 1 := cmpf .olt main_v9 main_v10
  let main_v12 : FVec F S384 .f32 := Host.absf main_arg4
  let main_cst_3 : FVec F S_ .f32 := constant S_ .f32 0x7F800000#32
  let main_v13 : FVec F S384 .f32 := broadcastInDim S384 ![] bcast_S_S384 main_cst_3
  let main_v14 : IVec S384 1 := cmpf .olt main_v12 main_v13
  let main_v15 : FVec F S384 .f32 := Host.absf main_arg7
  let main_cst_4 : FVec F S_ .f32 := constant S_ .f32 0x7F800000#32
  let main_v16 : FVec F S384 .f32 := broadcastInDim S384 ![] bcast_S_S384 main_cst_4
  let main_v17 : IVec S384 1 := cmpf .olt main_v15 main_v16
  fn_part1 (F := F) main_arg8 main_arg9 main_arg10 main_arg11 main_arg12 main_v2 main_v5 main_v8 main_v11 main_v14 main_v17
-- ==== Kernel.lean ====
abbrev S2x384x112x112 : Shape := ⟨4, ![2, 384, 112, 112]⟩
abbrev S768x384 : Shape := ⟨2, ![768, 384]⟩
abbrev S768 : Shape := ⟨1, ![768]⟩
abbrev S384x384 : Shape := ⟨2, ![384, 384]⟩
abbrev S384 : Shape := ⟨1, ![384]⟩
abbrev S1 : Shape := ⟨1, ![1]⟩
abbrev S768x768 : Shape := ⟨2, ![768, 768]⟩
abbrev S384x768 : Shape := ⟨2, ![384, 768]⟩
abbrev S2x384x2x56x2x56 : Shape := ⟨6, ![2, 384, 2, 56, 2, 56]⟩
abbrev S2x2x2x384x56x56 : Shape := ⟨6, ![2, 2, 2, 384, 56, 56]⟩
abbrev S2x2x2x384x3136 : Shape := ⟨5, ![2, 2, 2, 384, 3136]⟩
abbrev S768x1 : Shape := ⟨2, ![768, 1]⟩
abbrev S384x1 : Shape := ⟨2, ![384, 1]⟩
abbrev S1x1 : Shape := ⟨2, ![1, 1]⟩
abbrev S3136 : Shape := ⟨1, ![3136]⟩
abbrev S3136x1 : Shape := ⟨2, ![3136, 1]⟩
abbrev S49 : Shape := ⟨1, ![49]⟩
abbrev S1x49 : Shape := ⟨2, ![1, 49]⟩
abbrev S_ : Shape := ⟨0, ![]⟩
abbrev S3136x49 : Shape := ⟨2, ![3136, 49]⟩
abbrev S8x1x1 : Shape := ⟨3, ![8, 1, 1]⟩
abbrev S1x1x1x384x3136 : Shape := ⟨5, ![1, 1, 1, 384, 3136]⟩
abbrev S1x1x1 : Shape := ⟨3, ![1, 1, 1]⟩
abbrev S384x3136 : Shape := ⟨2, ![384, 3136]⟩
abbrev S49x49 : Shape := ⟨2, ![49, 49]⟩
abbrev S96x384 : Shape := ⟨2, ![96, 384]⟩
abbrev S96x1 : Shape := ⟨2, ![96, 1]⟩
abbrev S96x3136 : Shape := ⟨2, ![96, 3136]⟩
abbrev S96x49 : Shape := ⟨2, ![96, 49]⟩
abbrev S48x3136 : Shape := ⟨2, ![48, 3136]⟩
abbrev S48x49 : Shape := ⟨2, ![48, 49]⟩
abbrev S1x3136 : Shape := ⟨2, ![1, 3136]⟩
abbrev S49x3136 : Shape := ⟨2, ![49, 3136]⟩
abbrev S1x384x3136 : Shape := ⟨3, ![1, 384, 3136]⟩
abbrev S768x3136 : Shape := ⟨2, ![768, 3136]⟩

abbrev nBuf : Space → Nat
  | .hbm => 113
  | .vmem => 30
  | .smem => 14
  | _ => 0

abbrev bufTy : (tb : Table) → Fin (tcTables nBuf tb) → BufTy
  | .hbm, ⟨0, _⟩ => ⟨S2x384x112x112, .f32⟩
  | .hbm, ⟨1, _⟩ => ⟨S768x384, .f32⟩
  | .hbm, ⟨2, _⟩ => ⟨S768, .f32⟩
  | .hbm, ⟨3, _⟩ => ⟨S384x384, .f32⟩
  | .hbm, ⟨4, _⟩ => ⟨S384, .f32⟩
  | .hbm, ⟨5, _⟩ => ⟨S1, .f32⟩
  | .hbm, ⟨6, _⟩ => ⟨S1, .f32⟩
  | .hbm, ⟨7, _⟩ => ⟨S384, .f32⟩
  | .hbm, ⟨8, _⟩ => ⟨S384, .f32⟩
  | .hbm, ⟨9, _⟩ => ⟨S768x768, .f32⟩
  | .hbm, ⟨10, _⟩ => ⟨S768, .f32⟩
  | .hbm, ⟨11, _⟩ => ⟨S384x768, .f32⟩
  | .hbm, ⟨12, _⟩ => ⟨S384, .f32⟩
  | .hbm, ⟨13, _⟩ => ⟨S384, .f32⟩
  | .hbm, ⟨14, _⟩ => ⟨S384, .f32⟩
  | .hbm, ⟨15, _⟩ => ⟨S2x384x2x56x2x56, .f32⟩
  | .hbm, ⟨16, _⟩ => ⟨S2x2x2x384x56x56, .f32⟩
  | .hbm, ⟨17, _⟩ => ⟨S2x2x2x384x3136, .f32⟩
  | .hbm, ⟨18, _⟩ => ⟨S768x1, .f32⟩
  | .hbm, ⟨19, _⟩ => ⟨S384x1, .f32⟩
  | .hbm, ⟨20, _⟩ => ⟨S1x1, .f32⟩
  | .hbm, ⟨21, _⟩ => ⟨S1x1, .f32⟩
  | .hbm, ⟨22, _⟩ => ⟨S3136, .i32⟩
  | .hbm, ⟨23, _⟩ => ⟨S3136x1, .i32⟩
  | .hbm, ⟨24, _⟩ => ⟨S49, .i32⟩
  | .hbm, ⟨25, _⟩ => ⟨S1x49, .i32⟩
  | .hbm, ⟨26, _⟩ => ⟨S_, .i32⟩
  | .hbm, ⟨27, _⟩ => ⟨S_, .i32⟩
  | .hbm, ⟨28, _⟩ => ⟨S3136x1, .i32⟩
  | .hbm, ⟨29, _⟩ => ⟨S3136x1, .i32⟩
  | .hbm, ⟨30, _⟩ => ⟨S3136x1, .i32⟩
  | .hbm, ⟨31, _⟩ => ⟨S_, .i32⟩
  | .hbm, ⟨32, _⟩ => ⟨S3136x1, .i32⟩
  | .hbm, ⟨33, _⟩ => ⟨S3136x1, .i1⟩
  | .hbm, ⟨34, _⟩ => ⟨S3136x1, .i32⟩
  | .hbm, ⟨35, _⟩ => ⟨S3136x1, .i32⟩
  | .hbm, ⟨36, _⟩ => ⟨S_, .i32⟩
  | .hbm, ⟨37, _⟩ => ⟨S3136x1, .i32⟩
  | .hbm, ⟨38, _⟩ => ⟨S3136x1, .i1⟩
  | .hbm, ⟨39, _⟩ => ⟨S3136x1, .i1⟩
  | .hbm, ⟨40, _⟩ => ⟨S_, .i32⟩
  | .hbm, ⟨41, _⟩ => ⟨S3136x1, .i32⟩
  | .hbm, ⟨42, _⟩ => ⟨S3136x1, .i32⟩
  | .hbm, ⟨43, _⟩ => ⟨S3136x1, .i32⟩
  | .hbm, ⟨44, _⟩ => ⟨S_, .i32⟩
  | .hbm, ⟨45, _⟩ => ⟨S3136x1, .i32⟩
  | .hbm, ⟨46, _⟩ => ⟨S3136x1, .i32⟩
  | .hbm, ⟨47, _⟩ => ⟨S3136x1, .i32⟩
  | .hbm, ⟨48, _⟩ => ⟨S_, .i32⟩
  | .hbm, ⟨49, _⟩ => ⟨S_, .i32⟩
  | .hbm, ⟨50, _⟩ => ⟨S3136x1, .i32⟩
  | .hbm, ⟨51, _⟩ => ⟨S3136x1, .i32⟩
  | .hbm, ⟨52, _⟩ => ⟨S3136x1, .i32⟩
  | .hbm, ⟨53, _⟩ => ⟨S_, .i32⟩
  | .hbm, ⟨54, _⟩ => ⟨S3136x1, .i32⟩
  | .hbm, ⟨55, _⟩ => ⟨S3136x1, .i1⟩
  | .hbm, ⟨56, _⟩ => ⟨S3136x1, .i32⟩
  | .hbm, ⟨57, _⟩ => ⟨S3136x1, .i32⟩
  | .hbm, ⟨58, _⟩ => ⟨S_, .i32⟩
  | .hbm, ⟨59, _⟩ => ⟨S3136x1, .i32⟩
  | .hbm, ⟨60, _⟩ => ⟨S3136x1, .i1⟩
  | .hbm, ⟨61, _⟩ => ⟨S3136x1, .i1⟩
  | .hbm, ⟨62, _⟩ => ⟨S_, .i32⟩
  | .hbm, ⟨63, _⟩ => ⟨S3136x1, .i32⟩
  | .hbm, ⟨64, _⟩ => ⟨S3136x1, .i32⟩
  | .hbm, ⟨65, _⟩ => ⟨S3136x1, .i32⟩
  | .hbm, ⟨66, _⟩ => ⟨S_, .i32⟩
  | .hbm, ⟨67, _⟩ => ⟨S3136x1, .i32⟩
  | .hbm, ⟨68, _⟩ => ⟨S3136x1, .i32⟩
  | .hbm, ⟨69, _⟩ => ⟨S_, .i32⟩
  | .hbm, ⟨70, _⟩ => ⟨S_, .i32⟩
  | .hbm, ⟨71, _⟩ => ⟨S3136x1, .i32⟩
  | .hbm, ⟨72, _⟩ => ⟨S3136x1, .i32⟩
  | .hbm, ⟨73, _⟩ => ⟨S3136x1, .i32⟩
  | .hbm, ⟨74, _⟩ => ⟨S_, .i32⟩
  | .hbm, ⟨75, _⟩ => ⟨S3136x1, .i32⟩
  | .hbm, ⟨76, _⟩ => ⟨S3136x1, .i1⟩
  | .hbm, ⟨77, _⟩ => ⟨S3136x1, .i32⟩
  | .hbm, ⟨78, _⟩ => ⟨S3136x1, .i32⟩
  | .hbm, ⟨79, _⟩ => ⟨S_, .i32⟩
  | .hbm, ⟨80, _⟩ => ⟨S3136x1, .i32⟩
  | .hbm, ⟨81, _⟩ => ⟨S3136x1, .i1⟩
  | .hbm, ⟨82, _⟩ => ⟨S3136x1, .i1⟩
  | .hbm, ⟨83, _⟩ => ⟨S_, .i32⟩
  | .hbm, ⟨84, _⟩ => ⟨S3136x1, .i32⟩
  | .hbm, ⟨85, _⟩ => ⟨S3136x1, .i32⟩
  | .hbm, ⟨86, _⟩ => ⟨S3136x1, .i32⟩
  | .hbm, ⟨87, _⟩ => ⟨S3136x1, .i32⟩
  | .hbm, ⟨88, _⟩ => ⟨S3136x49, .i32⟩
  | .hbm, ⟨89, _⟩ => ⟨S3136x49, .i32⟩
  | .hbm, ⟨90, _⟩ => ⟨S3136x49, .i1⟩
  | .hbm, ⟨91, _⟩ => ⟨S_, .f32⟩
  | .hbm, ⟨92, _⟩ => ⟨S_, .f32⟩
  | .hbm, ⟨93, _⟩ => ⟨S3136x49, .f32⟩
  | .hbm, ⟨94, _⟩ => ⟨S3136x49, .f32⟩
  | .hbm, ⟨95, _⟩ => ⟨S3136x49, .f32⟩
  | .hbm, ⟨96, _⟩ => ⟨S3136x49, .bf16⟩
  | .hbm, ⟨97, _⟩ => ⟨S2x2x2x384x3136, .bf16⟩
  | .hbm, ⟨98, _⟩ => ⟨S8x1x1, .f32⟩
  | .hbm, ⟨99, _⟩ => ⟨S8x1x1, .f32⟩
  | .hbm, ⟨100, _⟩ => ⟨S384x1, .f32⟩
  | .hbm, ⟨101, _⟩ => ⟨S384x1, .f32⟩
  | .hbm, ⟨102, _⟩ => ⟨S768x1, .f32⟩
  | .hbm, ⟨103, _⟩ => ⟨S384x1, .f32⟩
  | .hbm, ⟨104, _⟩ => ⟨S2x2x2x384x3136, .bf16⟩
  | .hbm, ⟨105, _⟩ => ⟨S8x1x1, .f32⟩
  | .hbm, ⟨106, _⟩ => ⟨S8x1x1, .f32⟩
  | .hbm, ⟨107, _⟩ => ⟨S384x1, .f32⟩
  | .hbm, ⟨108, _⟩ => ⟨S384x1, .f32⟩
  | .hbm, ⟨109, _⟩ => ⟨S2x2x2x384x3136, .f32⟩
  | .hbm, ⟨110, _⟩ => ⟨S2x2x2x384x56x56, .f32⟩
  | .hbm, ⟨111, _⟩ => ⟨S2x384x2x56x2x56, .f32⟩
  | .hbm, ⟨112, _⟩ => ⟨S2x384x112x112, .f32⟩
  | .local _ .vmem, ⟨0, _⟩ => ⟨S1x1x1x384x3136, .f32⟩
  | .local _ .vmem, ⟨1, _⟩ => ⟨S1x1x1x384x3136, .f32⟩
  | .local _ .vmem, ⟨2, _⟩ => ⟨S768x384, .f32⟩
  | .local _ .vmem, ⟨3, _⟩ => ⟨S768x1, .f32⟩
  | .local _ .vmem, ⟨4, _⟩ => ⟨S384x384, .f32⟩
  | .local _ .vmem, ⟨5, _⟩ => ⟨S384x1, .f32⟩
  | .local _ .vmem, ⟨6, _⟩ => ⟨S3136x49, .bf16⟩
  | .local _ .vmem, ⟨7, _⟩ => ⟨S1x1x1x384x3136, .bf16⟩
  | .local _ .vmem, ⟨8, _⟩ => ⟨S1x1x1x384x3136, .bf16⟩
  | .local _ .vmem, ⟨9, _⟩ => ⟨S384x3136, .bf16⟩
  | .local _ .vmem, ⟨10, _⟩ => ⟨S1x1x1x384x3136, .f32⟩
  | .local _ .vmem, ⟨11, _⟩ => ⟨S1x1x1x384x3136, .f32⟩
  | .local _ .vmem, ⟨12, _⟩ => ⟨S1x1x1x384x3136, .bf16⟩
  | .local _ .vmem, ⟨13, _⟩ => ⟨S1x1x1x384x3136, .bf16⟩
  | .local _ .vmem, ⟨14, _⟩ => ⟨S384x1, .f32⟩
  | .local _ .vmem, ⟨15, _⟩ => ⟨S384x1, .f32⟩
  | .local _ .vmem, ⟨16, _⟩ => ⟨S768x768, .f32⟩
  | .local _ .vmem, ⟨17, _⟩ => ⟨S768x1, .f32⟩
  | .local _ .vmem, ⟨18, _⟩ => ⟨S384x768, .f32⟩
  | .local _ .vmem, ⟨19, _⟩ => ⟨S384x1, .f32⟩
  | .local _ .vmem, ⟨20, _⟩ => ⟨S1x1x1x384x3136, .bf16⟩
  | .local _ .vmem, ⟨21, _⟩ => ⟨S1x1x1x384x3136, .bf16⟩
  | .local _ .vmem, ⟨22, _⟩ => ⟨S384x1, .f32⟩
  | .local _ .vmem, ⟨23, _⟩ => ⟨S384x1, .f32⟩
  | .local _ .vmem, ⟨24, _⟩ => ⟨S1x1x1x384x3136, .bf16⟩
  | .local _ .vmem, ⟨25, _⟩ => ⟨S1x1x1x384x3136, .bf16⟩
  | .local _ .vmem, ⟨26, _⟩ => ⟨S1x1x1x384x3136, .f32⟩
  | .local _ .vmem, ⟨27, _⟩ => ⟨S1x1x1x384x3136, .f32⟩
  | .local _ .vmem, ⟨28, _⟩ => ⟨S1x1x1x384x3136, .f32⟩
  | .local _ .vmem, ⟨29, _⟩ => ⟨S1x1x1x384x3136, .f32⟩
  | .local _ .smem, ⟨0, _⟩ => ⟨S1x1, .f32⟩
  | .local _ .smem, ⟨1, _⟩ => ⟨S1x1, .f32⟩
  | .local _ .smem, ⟨2, _⟩ => ⟨S1x1x1, .f32⟩
  | .local _ .smem, ⟨3, _⟩ => ⟨S1x1x1, .f32⟩
  | .local _ .smem, ⟨4, _⟩ => ⟨S1x1x1, .f32⟩
  | .local _ .smem, ⟨5, _⟩ => ⟨S1x1x1, .f32⟩
  | .local _ .smem, ⟨6, _⟩ => ⟨S8x1x1, .f32⟩
  | .local _ .smem, ⟨7, _⟩ => ⟨S8x1x1, .f32⟩
  | .local _ .smem, ⟨8, _⟩ => ⟨S1x1x1, .f32⟩
  | .local _ .smem, ⟨9, _⟩ => ⟨S1x1x1, .f32⟩
  | .local _ .smem, ⟨10, _⟩ => ⟨S1x1x1, .f32⟩
  | .local _ .smem, ⟨11, _⟩ => ⟨S1x1x1, .f32⟩
  | .local _ .smem, ⟨12, _⟩ => ⟨S8x1x1, .f32⟩
  | .local _ .smem, ⟨13, _⟩ => ⟨S8x1x1, .f32⟩
  | _, _ => ⟨S2x384x112x112, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | .smem, ⟨8, _⟩ => true
  | .smem, ⟨9, _⟩ => true
  | .smem, ⟨10, _⟩ => true
  | .smem, ⟨11, _⟩ => true
  | .smem, ⟨12, _⟩ => true
  | .smem, ⟨13, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_c : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_0 : Ref sig .tc := ⟨.hbm, 40, rfl⟩
abbrev main_call0_v12 : Ref sig .tc := ⟨.hbm, 41, rfl⟩
abbrev main_call0_v13 : Ref sig .tc := ⟨.hbm, 42, rfl⟩
abbrev main_v11 : Ref sig .tc := ⟨.hbm, 43, rfl⟩
abbrev main_c_0 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_c_1 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_c : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_0 : Ref sig .tc := ⟨.hbm, 62, rfl⟩
abbrev main_call1_v12 : Ref sig .tc := ⟨.hbm, 63, rfl⟩
abbrev main_call1_v13 : Ref sig .tc := ⟨.hbm, 64, rfl⟩
abbrev main_v15 : Ref sig .tc := ⟨.hbm, 65, rfl⟩
abbrev main_c_2 : Ref sig .tc := ⟨.hbm, 66, rfl⟩
abbrev main_v16 : Ref sig .tc := ⟨.hbm, 67, rfl⟩
abbrev main_v17 : Ref sig .tc := ⟨.hbm, 68, rfl⟩
abbrev main_c_3 : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_v5 : Ref sig .tc := ⟨.hbm, 75, rfl⟩
abbrev main_call2_v6 : Ref sig .tc := ⟨.hbm, 76, rfl⟩
abbrev main_call2_v7 : Ref sig .tc := ⟨.hbm, 77, rfl⟩
abbrev main_call2_v8 : Ref sig .tc := ⟨.hbm, 78, rfl⟩
abbrev main_call2_c : Ref sig .tc := ⟨.hbm, 79, rfl⟩
abbrev main_call2_v9 : Ref sig .tc := ⟨.hbm, 80, rfl⟩
abbrev main_call2_v10 : Ref sig .tc := ⟨.hbm, 81, rfl⟩
abbrev main_call2_v11 : Ref sig .tc := ⟨.hbm, 82, rfl⟩
abbrev main_call2_c_0 : Ref sig .tc := ⟨.hbm, 83, rfl⟩
abbrev main_call2_v12 : Ref sig .tc := ⟨.hbm, 84, rfl⟩
abbrev main_call2_v13 : Ref sig .tc := ⟨.hbm, 85, rfl⟩
abbrev main_v18 : Ref sig .tc := ⟨.hbm, 86, rfl⟩
abbrev main_v19 : Ref sig .tc := ⟨.hbm, 87, rfl⟩
abbrev main_v20 : Ref sig .tc := ⟨.hbm, 88, rfl⟩
abbrev main_v21 : Ref sig .tc := ⟨.hbm, 89, rfl⟩
abbrev main_v22 : Ref sig .tc := ⟨.hbm, 90, rfl⟩
abbrev main_cst : Ref sig .tc := ⟨.hbm, 91, rfl⟩
abbrev main_cst_4 : Ref sig .tc := ⟨.hbm, 92, rfl⟩
abbrev main_call3_v0 : Ref sig .tc := ⟨.hbm, 93, rfl⟩
abbrev main_call3_v1 : Ref sig .tc := ⟨.hbm, 94, rfl⟩
abbrev main_v23 : Ref sig .tc := ⟨.hbm, 95, rfl⟩
abbrev main_v24 : Ref sig .tc := ⟨.hbm, 96, rfl⟩
abbrev main_v25_0 : Ref sig .tc := ⟨.hbm, 97, rfl⟩
abbrev main_v25_1 : Ref sig .tc := ⟨.hbm, 98, rfl⟩
abbrev main_v25_2 : Ref sig .tc := ⟨.hbm, 99, rfl⟩
abbrev main_v26 : Ref sig .tc := ⟨.hbm, 100, rfl⟩
abbrev main_v27 : Ref sig .tc := ⟨.hbm, 101, rfl⟩
abbrev main_v28 : Ref sig .tc := ⟨.hbm, 102, rfl⟩
abbrev main_v29 : Ref sig .tc := ⟨.hbm, 103, rfl⟩
abbrev main_v30_0 : Ref sig .tc := ⟨.hbm, 104, rfl⟩
abbrev main_v30_1 : Ref sig .tc := ⟨.hbm, 105, rfl⟩
abbrev main_v30_2 : Ref sig .tc := ⟨.hbm, 106, rfl⟩
abbrev main_v31 : Ref sig .tc := ⟨.hbm, 107, rfl⟩
abbrev main_v32 : Ref sig .tc := ⟨.hbm, 108, rfl⟩
abbrev main_v33 : Ref sig .tc := ⟨.hbm, 109, rfl⟩
abbrev main_v34 : Ref sig .tc := ⟨.hbm, 110, rfl⟩
abbrev main_v35 : Ref sig .tc := ⟨.hbm, 111, rfl⟩
abbrev main_v36 : Ref sig .tc := ⟨.hbm, 112, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg8_1 : Ref sig .tc := ⟨.vmem, 8, rfl⟩
abbrev cc0_scratch0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg10_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg6_1 : Ref sig .tc := ⟨.vmem, 29, rfl⟩
abbrev cc0_stg0_0 : Ref sig .tc := ⟨.smem, 0, rfl⟩
abbrev cc0_stg1_0 : Ref sig .tc := ⟨.smem, 1, rfl⟩
abbrev cc0_stg9_0 : Ref sig .tc := ⟨.smem, 2, rfl⟩
abbrev cc0_stg9_1 : Ref sig .tc := ⟨.smem, 3, rfl⟩
abbrev cc0_stg10_0 : Ref sig .tc := ⟨.smem, 4, rfl⟩
abbrev cc0_stg10_1 : Ref sig .tc := ⟨.smem, 5, rfl⟩
abbrev cc1_stg0_0 : Ref sig .tc := ⟨.smem, 6, rfl⟩
abbrev cc1_stg1_0 : Ref sig .tc := ⟨.smem, 7, rfl⟩
abbrev cc1_stg11_0 : Ref sig .tc := ⟨.smem, 8, rfl⟩
abbrev cc1_stg11_1 : Ref sig .tc := ⟨.smem, 9, rfl⟩
abbrev cc1_stg12_0 : Ref sig .tc := ⟨.smem, 10, rfl⟩
abbrev cc1_stg12_1 : Ref sig .tc := ⟨.smem, 11, rfl⟩
abbrev cc2_stg0_0 : Ref sig .tc := ⟨.smem, 12, rfl⟩
abbrev cc2_stg1_0 : Ref sig .tc := ⟨.smem, 13, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc1_sem0_0 : DmaSem sig := 15
abbrev cc1_sem1_0 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem10_0 : DmaSem sig := 27
abbrev cc1_sem10_1 : DmaSem sig := 28
abbrev cc1_sem11_0 : DmaSem sig := 29
abbrev cc1_sem11_1 : DmaSem sig := 30
abbrev cc1_sem12_0 : DmaSem sig := 31
abbrev cc1_sem12_1 : DmaSem sig := 32
abbrev cc2_sem0_0 : DmaSem sig := 33
abbrev cc2_sem1_0 : DmaSem sig := 34
abbrev cc2_sem2_0 : DmaSem sig := 35
abbrev cc2_sem3_0 : DmaSem sig := 36
abbrev cc2_sem4_0 : DmaSem sig := 37
abbrev cc2_sem4_1 : DmaSem sig := 38
abbrev cc2_sem5_0 : DmaSem sig := 39
abbrev cc2_sem5_1 : DmaSem sig := 40
abbrev cc2_sem6_0 : DmaSem sig := 41
abbrev cc2_sem6_1 : DmaSem sig := 42

abbrev nD : Nat := 1
abbrev τ : Topo := Topo.v7x

variable {F : FTy → Type} [FloatOps F]

abbrev grid0 : Pipeline.Grid := ⟨3, ![2, 2, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c2_i32 : BitVec 32 := 2#32
  let v1 : BitVec 32 := Scalar.muli arg1 c2_i32
  let v2 : BitVec 32 := Scalar.addi v0 v1
  let v3 : BitVec 32 := Scalar.addi v2 arg2
  let c0_i32 : BitVec 32 := 0#32
  let c0_i32_0 : BitVec 32 := 0#32
  let c0_i32_1 : BitVec 32 := 0#32
  ![v3.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c2_i32 : BitVec 32 := 2#32
  let v1 : BitVec 32 := Scalar.muli arg1 c2_i32
  let v2 : BitVec 32 := Scalar.addi v0 v1
  let v3 : BitVec 32 := Scalar.addi v2 arg2
  let c0_i32 : BitVec 32 := 0#32
  let c0_i32_0 : BitVec 32 := 0#32
  let c0_i32_1 : BitVec 32 := 0#32
  ![v3.toNat, c0_i32.toNat, c0_i32_0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1x384x3136 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S768x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S768x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S384x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S384x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S3136x49 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x1x1x384x3136 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .smem S1x1x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .smem S1x1x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev grid1 : Pipeline.Grid := ⟨3, ![2, 2, 2], ![false, false, false]⟩

def k1_off1 (i : grid1.Coords) (c0_i32 : BitVec 32) (c0_i32_0 : BitVec 32) : Fin 3 → Nat :=
  let arg0 : BitVec 32 := BitVec.ofNat 32 (i 0).val
  let c4_i32 : BitVec 32 := 4#32
  let v0 : BitVec 32 := Scalar.muli arg0 c4_i32
  let v1 : BitVec 32 := Scalar.addi v0 c0_i32
  let v2 : BitVec 32 := Scalar.addi v1 c0_i32_0
  let v3 : Index := Scalar.indexCast v2
  let c0 : Index := 0#32
  let c0_1 : Index := 0#32
  ![v3.toNat, 0, 0]
def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc1_transform_3 (i : grid1.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc1_transform_11 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c2_i32 : BitVec 32 := 2#32
  let v1 : BitVec 32 := Scalar.muli arg1 c2_i32
  let v2 : BitVec 32 := Scalar.addi v0 v1
  let v3 : BitVec 32 := Scalar.addi v2 arg2
  let c0_i32 : BitVec 32 := 0#32
  let c0_i32_0 : BitVec 32 := 0#32
  let c0_i32_1 : BitVec 32 := 0#32
  ![v3.toNat, c0_i32.toNat, c0_i32_0.toNat]

def cc1_transform_12 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c2_i32 : BitVec 32 := 2#32
  let v1 : BitVec 32 := Scalar.muli arg1 c2_i32
  let v2 : BitVec 32 := Scalar.addi v0 v1
  let v3 : BitVec 32 := Scalar.addi v2 arg2
  let c0_i32 : BitVec 32 := 0#32
  let c0_i32_0 : BitVec 32 := 0#32
  let c0_i32_1 : BitVec 32 := 0#32
  ![v3.toNat, c0_i32.toNat, c0_i32_0.toNat]

abbrev stage1_0 : Fin 1 → Memref sig .tc .smem S8x1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false, false]

abbrev stage1_1 : Fin 1 → Memref sig .tc .smem S8x1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false, false]

abbrev stage1_2 : Fin 2 → Memref sig .tc .vmem S1x1x1x384x3136 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x1x1x384x3136 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 1 → Memref sig .tc .vmem S384x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 1 → Memref sig .tc .vmem S384x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 1 → Memref sig .tc .vmem S768x768 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false, false]

abbrev stage1_7 : Fin 1 → Memref sig .tc .vmem S768x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false, false]

abbrev stage1_8 : Fin 1 → Memref sig .tc .vmem S384x768 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false, false]

abbrev stage1_9 : Fin 1 → Memref sig .tc .vmem S384x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false, false]

abbrev stage1_10 : Fin 2 → Memref sig .tc .vmem S1x1x1x384x3136 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true, true]

abbrev stage1_11 : Fin 2 → Memref sig .tc .smem S1x1x1 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true, true]

abbrev stage1_12 : Fin 2 → Memref sig .tc .smem S1x1x1 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true, true]

abbrev grid2 : Pipeline.Grid := ⟨3, ![2, 2, 2], ![false, false, false]⟩

def k2_off1 (i : grid2.Coords) (c0_i32 : BitVec 32) (c0_i32_0 : BitVec 32) : Fin 3 → Nat :=
  let arg0 : BitVec 32 := BitVec.ofNat 32 (i 0).val
  let c4_i32 : BitVec 32 := 4#32
  let v0 : BitVec 32 := Scalar.muli arg0 c4_i32
  let v1 : BitVec 32 := Scalar.addi v0 c0_i32
  let v2 : BitVec 32 := Scalar.addi v1 c0_i32_0
  let v3 : Index := Scalar.indexCast v2
  let c0 : Index := 0#32
  let c0_1 : Index := 0#32
  ![v3.toNat, 0, 0]
def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc2_transform_5 (i : grid2.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc2_transform_6 (i : grid2.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage2_0 : Fin 1 → Memref sig .tc .smem S8x1x1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false, false]

abbrev stage2_1 : Fin 1 → Memref sig .tc .smem S8x1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false, false]

abbrev stage2_2 : Fin 1 → Memref sig .tc .vmem S384x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false, false]

abbrev stage2_3 : Fin 1 → Memref sig .tc .vmem S384x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false, false]

abbrev stage2_4 : Fin 2 → Memref sig .tc .vmem S1x1x1x384x3136 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, true]

abbrev stage2_5 : Fin 2 → Memref sig .tc .vmem S1x1x1x384x3136 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true, true]

abbrev stage2_6 : Fin 2 → Memref sig .tc .vmem S1x1x1x384x3136 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true, true]
-- ==== ReferenceIdeal.lean ====
abbrev S2x384x112x112 : Shape := ⟨4, ![2, 384, 112, 112]⟩
abbrev S768x384 : Shape := ⟨2, ![768, 384]⟩
abbrev S768 : Shape := ⟨1, ![768]⟩
abbrev S384x384 : Shape := ⟨2, ![384, 384]⟩
abbrev S384 : Shape := ⟨1, ![384]⟩
abbrev S1 : Shape := ⟨1, ![1]⟩
abbrev S768x768 : Shape := ⟨2, ![768, 768]⟩
abbrev S384x768 : Shape := ⟨2, ![384, 768]⟩
abbrev S768x2x112x112 : Shape := ⟨4, ![768, 2, 112, 112]⟩
abbrev S2x768x112x112 : Shape := ⟨4, ![2, 768, 112, 112]⟩
abbrev S1x768x1x1 : Shape := ⟨4, ![1, 768, 1, 1]⟩
abbrev S2x8x96x2x56x2x56 : Shape := ⟨7, ![2, 8, 96, 2, 56, 2, 56]⟩
abbrev S2x8x2x2x96x56x56 : Shape := ⟨7, ![2, 8, 2, 2, 96, 56, 56]⟩
abbrev S64x96x56x56 : Shape := ⟨4, ![64, 96, 56, 56]⟩
abbrev S64x96x7x8x7x8 : Shape := ⟨6, ![64, 96, 7, 8, 7, 8]⟩
abbrev S_ : Shape := ⟨0, ![]⟩
abbrev S64x96x7x7 : Shape := ⟨4, ![64, 96, 7, 7]⟩
abbrev S64x96x3136 : Shape := ⟨3, ![64, 96, 3136]⟩
abbrev S64x3136x96 : Shape := ⟨3, ![64, 3136, 96]⟩
abbrev S64x96x49 : Shape := ⟨3, ![64, 96, 49]⟩
abbrev S64x49x96 : Shape := ⟨3, ![64, 49, 96]⟩
abbrev S64x3136x48 : Shape := ⟨3, ![64, 3136, 48]⟩
abbrev S64x49x48 : Shape := ⟨3, ![64, 49, 48]⟩
abbrev S64x3136 : Shape := ⟨2, ![64, 3136]⟩
abbrev S64x3136x1 : Shape := ⟨3, ![64, 3136, 1]⟩
abbrev S64x49 : Shape := ⟨2, ![64, 49]⟩
abbrev S64x49x1 : Shape := ⟨3, ![64, 49, 1]⟩
abbrev S64x3136x49 : Shape := ⟨3, ![64, 3136, 49]⟩
abbrev S1x1x1 : Shape := ⟨3, ![1, 1, 1]⟩
abbrev S49 : Shape := ⟨1, ![49]⟩
abbrev S64 : Shape := ⟨1, ![64]⟩
abbrev S64x1 : Shape := ⟨2, ![64, 1]⟩
abbrev S200704 : Shape := ⟨1, ![200704]⟩
abbrev S200704x48 : Shape := ⟨2, ![200704, 48]⟩
abbrev S3136x48 : Shape := ⟨2, ![3136, 48]⟩
abbrev S3136x1 : Shape := ⟨2, ![3136, 1]⟩
abbrev S3136x49 : Shape := ⟨2, ![3136, 49]⟩
abbrev S200704x1 : Shape := ⟨2, ![200704, 1]⟩
abbrev S200704x49 : Shape := ⟨2, ![200704, 49]⟩
abbrev S2x8x2x2x56x56x48 : Shape := ⟨7, ![2, 8, 2, 2, 56, 56, 48]⟩
abbrev S2x8x48x2x56x2x56 : Shape := ⟨7, ![2, 8, 48, 2, 56, 2, 56]⟩
abbrev S384x2x112x112 : Shape := ⟨4, ![384, 2, 112, 112]⟩
abbrev S1x384x1x1 : Shape := ⟨4, ![1, 384, 1, 1]⟩
abbrev S2 : Shape := ⟨1, ![2]⟩
abbrev S2x1x1x1 : Shape := ⟨4, ![2, 1, 1, 1]⟩
abbrev S2x112x112x768 : Shape := ⟨4, ![2, 112, 112, 768]⟩
abbrev S1x1x1x768 : Shape := ⟨4, ![1, 1, 1, 768]⟩
abbrev S2x112x112x384 : Shape := ⟨4, ![2, 112, 112, 384]⟩
abbrev S1x1x1x384 : Shape := ⟨4, ![1, 1, 1, 384]⟩

abbrev nBuf : Space → Nat
  | .hbm => 249
  | .vmem => 0
  | .smem => 0
  | _ => 0

abbrev hbmTy0_0 (i : Nat) : BufTy := match i % 128 with
  | 0 => ⟨S2x384x112x112, .f32⟩
  | 1 => ⟨S768x384, .f32⟩
  | 2 => ⟨S768, .f32⟩
  | 3 => ⟨S384x384, .f32⟩
  | 4 => ⟨S384, .f32⟩
  | 5 => ⟨S1, .f32⟩
  | 6 => ⟨S1, .f32⟩
  | 7 => ⟨S384, .f32⟩
  | 8 => ⟨S384, .f32⟩
  | 9 => ⟨S768x768, .f32⟩
  | 10 => ⟨S768, .f32⟩
  | 11 => ⟨S384x768, .f32⟩
  | 12 => ⟨S384, .f32⟩
  | 13 => ⟨S384, .f32⟩
  | 14 => ⟨S384, .f32⟩
  | 15 => ⟨S768x2x112x112, .f32⟩
  | 16 => ⟨S2x768x112x112, .f32⟩
  | 17 => ⟨S1x768x1x1, .f32⟩
  | 18 => ⟨S2x768x112x112, .f32⟩
  | 19 => ⟨S2x768x112x112, .f32⟩
  | 20 => ⟨S2x8x96x2x56x2x56, .f32⟩
  | 21 => ⟨S2x8x2x2x96x56x56, .f32⟩
  | 22 => ⟨S64x96x56x56, .f32⟩
  | 23 => ⟨S64x96x7x8x7x8, .f32⟩
  | 24 => ⟨S_, .f32⟩
  | 25 => ⟨S64x96x7x7, .f32⟩
  | 26 => ⟨S_, .f32⟩
  | 27 => ⟨S64x96x7x7, .f32⟩
  | 28 => ⟨S64x96x7x7, .f32⟩
  | 29 => ⟨S64x96x3136, .f32⟩
  | 30 => ⟨S64x3136x96, .f32⟩
  | 31 => ⟨S64x96x49, .f32⟩
  | 32 => ⟨S64x49x96, .f32⟩
  | 33 => ⟨S64x3136x48, .f32⟩
  | 34 => ⟨S64x3136x48, .f32⟩
  | 35 => ⟨S64x49x48, .f32⟩
  | 36 => ⟨S64x49x48, .f32⟩
  | 37 => ⟨S64x3136x48, .f32⟩
  | 38 => ⟨S_, .f32⟩
  | 39 => ⟨S64x3136, .f32⟩
  | 40 => ⟨S64x3136x1, .f32⟩
  | 41 => ⟨S64x3136x1, .f32⟩
  | 42 => ⟨S_, .f32⟩
  | 43 => ⟨S64x3136x1, .f32⟩
  | 44 => ⟨S64x3136x1, .f32⟩
  | 45 => ⟨S64x3136x48, .f32⟩
  | 46 => ⟨S64x3136x48, .f32⟩
  | 47 => ⟨S64x49x48, .f32⟩
  | 48 => ⟨S_, .f32⟩
  | 49 => ⟨S64x49, .f32⟩
  | 50 => ⟨S64x49x1, .f32⟩
  | 51 => ⟨S64x49x1, .f32⟩
  | 52 => ⟨S_, .f32⟩
  | 53 => ⟨S64x49x1, .f32⟩
  | 54 => ⟨S64x49x1, .f32⟩
  | 55 => ⟨S64x49x48, .f32⟩
  | 56 => ⟨S64x49x48, .f32⟩
  | 57 => ⟨S64x3136x49, .f32⟩
  | 58 => ⟨S1x1x1, .f32⟩
  | 59 => ⟨S64x3136x49, .f32⟩
  | 60 => ⟨S64x3136x49, .f32⟩
  | 61 => ⟨S1x1x1, .f32⟩
  | 62 => ⟨S64x3136x49, .f32⟩
  | 63 => ⟨S64x3136x49, .f32⟩
  | 64 => ⟨S64x3136x49, .f32⟩
  | 65 => ⟨S64x3136x49, .f32⟩
  | 66 => ⟨S_, .f32⟩
  | 67 => ⟨S64x3136x49, .f32⟩
  | 68 => ⟨S64x3136x49, .f32⟩
  | 69 => ⟨S_, .f32⟩
  | 70 => ⟨S64x3136x49, .f32⟩
  | 71 => ⟨S64x3136x49, .f32⟩
  | 72 => ⟨S_, .f32⟩
  | 73 => ⟨S64x3136, .f32⟩
  | 74 => ⟨S64x3136x1, .f32⟩
  | 75 => ⟨S64x3136x49, .f32⟩
  | 76 => ⟨S64x3136x49, .i1⟩
  | 77 => ⟨S49, .i32⟩
  | 78 => ⟨S_, .i32⟩
  | 79 => ⟨S_, .i32⟩
  | 80 => ⟨S64x3136x49, .i32⟩
  | 81 => ⟨S64x3136x49, .i32⟩
  | 82 => ⟨S64x3136x49, .i32⟩
  | 83 => ⟨S_, .i32⟩
  | 84 => ⟨S64x3136, .i32⟩
  | 85 => ⟨S64, .i32⟩
  | 86 => ⟨S64x1, .i32⟩
  | 87 => ⟨S_, .i32⟩
  | 88 => ⟨S64x1, .i32⟩
  | 89 => ⟨S64x1, .i32⟩
  | 90 => ⟨S64x3136, .i32⟩
  | 91 => ⟨S64x3136, .i32⟩
  | 92 => ⟨S200704, .f32⟩
  | 93 => ⟨S200704, .i32⟩
  | 94 => ⟨S200704x48, .f32⟩
  | 95 => ⟨S3136x48, .f32⟩
  | 96 => ⟨S_, .f32⟩
  | 97 => ⟨S3136x1, .f32⟩
  | 98 => ⟨S3136x49, .f32⟩
  | 99 => ⟨S_, .f32⟩
  | 100 => ⟨S200704x1, .f32⟩
  | 101 => ⟨S200704x49, .f32⟩
  | 102 => ⟨S200704x1, .f32⟩
  | 103 => ⟨S200704x49, .f32⟩
  | 104 => ⟨S200704x49, .f32⟩
  | 105 => ⟨S_, .i32⟩
  | 106 => ⟨S200704, .i32⟩
  | 107 => ⟨S200704, .i1⟩
  | 108 => ⟨S_, .i32⟩
  | 109 => ⟨S200704, .i32⟩
  | 110 => ⟨S200704, .i32⟩
  | 111 => ⟨S200704, .i32⟩
  | 112 => ⟨S200704x1, .i32⟩
  | 113 => ⟨S3136x49, .f32⟩
  | 114 => ⟨S3136x48, .f32⟩
  | 115 => ⟨S3136x1, .f32⟩
  | 116 => ⟨S3136x48, .f32⟩
  | 117 => ⟨S3136x48, .f32⟩
  | 118 => ⟨S200704x1, .f32⟩
  | 119 => ⟨S_, .i32⟩
  | 120 => ⟨S200704, .i32⟩
  | 121 => ⟨S200704, .i1⟩
  | 122 => ⟨S_, .i32⟩
  | 123 => ⟨S200704, .i32⟩
  | 124 => ⟨S200704, .i32⟩
  | 125 => ⟨S200704, .i32⟩
  | 126 => ⟨S200704x1, .i32⟩
  | 127 => ⟨S200704x48, .f32⟩
  | _ => ⟨S2x384x112x112, .f32⟩

abbrev hbmTy0_1 (i : Nat) : BufTy := match i % 128 with
  | 0 => ⟨S200704x48, .f32⟩
  | 1 => ⟨S200704x48, .f32⟩
  | 2 => ⟨S2x8x2x2x56x56x48, .f32⟩
  | 3 => ⟨S2x8x48x2x56x2x56, .f32⟩
  | 4 => ⟨S2x384x112x112, .f32⟩
  | 5 => ⟨S384x2x112x112, .f32⟩
  | 6 => ⟨S2x384x112x112, .f32⟩
  | 7 => ⟨S1x384x1x1, .f32⟩
  | 8 => ⟨S2x384x112x112, .f32⟩
  | 9 => ⟨S2x384x112x112, .f32⟩
  | 10 => ⟨S_, .f32⟩
  | 11 => ⟨S2, .f32⟩
  | 12 => ⟨S2x1x1x1, .f32⟩
  | 13 => ⟨S_, .f32⟩
  | 14 => ⟨S2x1x1x1, .f32⟩
  | 15 => ⟨S2x1x1x1, .f32⟩
  | 16 => ⟨S_, .i32⟩
  | 17 => ⟨S_, .f32⟩
  | 18 => ⟨S2, .f32⟩
  | 19 => ⟨S2x1x1x1, .f32⟩
  | 20 => ⟨S_, .f32⟩
  | 21 => ⟨S2x1x1x1, .f32⟩
  | 22 => ⟨S2x1x1x1, .f32⟩
  | 23 => ⟨S2x384x112x112, .f32⟩
  | 24 => ⟨S2x384x112x112, .f32⟩
  | 25 => ⟨S2x384x112x112, .f32⟩
  | 26 => ⟨S_, .f32⟩
  | 27 => ⟨S_, .f32⟩
  | 28 => ⟨S_, .f32⟩
  | 29 => ⟨S_, .f32⟩
  | 30 => ⟨S2, .f32⟩
  | 31 => ⟨S2x1x1x1, .f32⟩
  | 32 => ⟨S2x1x1x1, .f32⟩
  | 33 => ⟨S2x1x1x1, .f32⟩
  | 34 => ⟨S_, .f32⟩
  | 35 => ⟨S_, .i1⟩
  | 36 => ⟨S_, .f32⟩
  | 37 => ⟨S_, .f32⟩
  | 38 => ⟨S2x1x1x1, .f32⟩
  | 39 => ⟨S2x1x1x1, .f32⟩
  | 40 => ⟨S2x384x112x112, .f32⟩
  | 41 => ⟨S2x384x112x112, .f32⟩
  | 42 => ⟨S_, .f32⟩
  | 43 => ⟨S2x1x1x1, .f32⟩
  | 44 => ⟨S2x1x1x1, .f32⟩
  | 45 => ⟨S2x1x1x1, .f32⟩
  | 46 => ⟨S2x384x112x112, .f32⟩
  | 47 => ⟨S2x384x112x112, .f32⟩
  | 48 => ⟨S1x384x1x1, .f32⟩
  | 49 => ⟨S2x384x112x112, .f32⟩
  | 50 => ⟨S2x384x112x112, .f32⟩
  | 51 => ⟨S1x384x1x1, .f32⟩
  | 52 => ⟨S2x384x112x112, .f32⟩
  | 53 => ⟨S2x384x112x112, .f32⟩
  | 54 => ⟨S2x768x112x112, .f32⟩
  | 55 => ⟨S2x112x112x768, .f32⟩
  | 56 => ⟨S768x768, .f32⟩
  | 57 => ⟨S2x112x112x768, .f32⟩
  | 58 => ⟨S1x1x1x768, .f32⟩
  | 59 => ⟨S2x112x112x768, .f32⟩
  | 60 => ⟨S2x112x112x768, .f32⟩
  | 61 => ⟨S_, .f32⟩
  | 62 => ⟨S2x112x112x768, .f32⟩
  | 63 => ⟨S2x112x112x768, .f32⟩
  | 64 => ⟨S2x112x112x768, .f32⟩
  | 65 => ⟨S_, .f32⟩
  | 66 => ⟨S2x112x112x768, .f32⟩
  | 67 => ⟨S2x112x112x768, .f32⟩
  | 68 => ⟨S2x112x112x768, .f32⟩
  | 69 => ⟨S2x112x112x768, .f32⟩
  | 70 => ⟨S768x384, .f32⟩
  | 71 => ⟨S2x112x112x384, .f32⟩
  | 72 => ⟨S1x1x1x384, .f32⟩
  | 73 => ⟨S2x112x112x384, .f32⟩
  | 74 => ⟨S2x112x112x384, .f32⟩
  | 75 => ⟨S2x384x112x112, .f32⟩
  | 76 => ⟨S_, .f32⟩
  | 77 => ⟨S2, .f32⟩
  | 78 => ⟨S2x1x1x1, .f32⟩
  | 79 => ⟨S_, .f32⟩
  | 80 => ⟨S2x1x1x1, .f32⟩
  | 81 => ⟨S2x1x1x1, .f32⟩
  | 82 => ⟨S_, .i32⟩
  | 83 => ⟨S_, .f32⟩
  | 84 => ⟨S2, .f32⟩
  | 85 => ⟨S2x1x1x1, .f32⟩
  | 86 => ⟨S_, .f32⟩
  | 87 => ⟨S2x1x1x1, .f32⟩
  | 88 => ⟨S2x1x1x1, .f32⟩
  | 89 => ⟨S2x384x112x112, .f32⟩
  | 90 => ⟨S2x384x112x112, .f32⟩
  | 91 => ⟨S2x384x112x112, .f32⟩
  | 92 => ⟨S_, .f32⟩
  | 93 => ⟨S_, .f32⟩
  | 94 => ⟨S_, .f32⟩
  | 95 => ⟨S_, .f32⟩
  | 96 => ⟨S2, .f32⟩
  | 97 => ⟨S2x1x1x1, .f32⟩
  | 98 => ⟨S2x1x1x1, .f32⟩
  | 99 => ⟨S2x1x1x1, .f32⟩
  | 100 => ⟨S_, .f32⟩
  | 101 => ⟨S_, .i1⟩
  | 102 => ⟨S_, .f32⟩
  | 103 => ⟨S_, .f32⟩
  | 104 => ⟨S2x1x1x1, .f32⟩
  | 105 => ⟨S2x1x1x1, .f32⟩
  | 106 => ⟨S2x384x112x112, .f32⟩
  | 107 => ⟨S2x384x112x112, .f32⟩
  | 108 => ⟨S_, .f32⟩
  | 109 => ⟨S2x1x1x1, .f32⟩
  | 110 => ⟨S2x1x1x1, .f32⟩
  | 111 => ⟨S2x1x1x1, .f32⟩
  | 112 => ⟨S2x384x112x112, .f32⟩
  | 113 => ⟨S2x384x112x112, .f32⟩
  | 114 => ⟨S1x384x1x1, .f32⟩
  | 115 => ⟨S2x384x112x112, .f32⟩
  | 116 => ⟨S2x384x112x112, .f32⟩
  | 117 => ⟨S1x384x1x1, .f32⟩
  | 118 => ⟨S2x384x112x112, .f32⟩
  | 119 => ⟨S2x384x112x112, .f32⟩
  | 120 => ⟨S2x384x112x112, .f32⟩
  | _ => ⟨S2x384x112x112, .f32⟩

abbrev hbmTy (i : Nat) : BufTy := match i / 128 with
  | 0 => hbmTy0_0 i
  | 1 => hbmTy0_1 i
  | _ => ⟨S2x384x112x112, .f32⟩

abbrev bufTy : (tb : Table) → Fin (tcTables nBuf tb) → BufTy
  | .hbm, ⟨i, _⟩ => hbmTy i
  | _, _ => ⟨S2x384x112x112, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_call0_v0 : Ref sig .tc := ⟨.hbm, 37, rfl⟩
abbrev main_call0_cst : Ref sig .tc := ⟨.hbm, 38, rfl⟩
abbrev main_call0_v1 : Ref sig .tc := ⟨.hbm, 39, rfl⟩
abbrev main_call0_v2 : Ref sig .tc := ⟨.hbm, 40, rfl⟩
abbrev main_v20 : Ref sig .tc := ⟨.hbm, 41, rfl⟩
abbrev main_cst_1 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_call1_v0 : Ref sig .tc := ⟨.hbm, 47, rfl⟩
abbrev main_call1_cst : Ref sig .tc := ⟨.hbm, 48, rfl⟩
abbrev main_call1_v1 : Ref sig .tc := ⟨.hbm, 49, rfl⟩
abbrev main_call1_v2 : Ref sig .tc := ⟨.hbm, 50, rfl⟩
abbrev main_v25 : Ref sig .tc := ⟨.hbm, 51, rfl⟩
abbrev main_cst_2 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_3 : Ref sig .tc := ⟨.hbm, 66, rfl⟩
abbrev main_v39 : Ref sig .tc := ⟨.hbm, 67, rfl⟩
abbrev main_v40 : Ref sig .tc := ⟨.hbm, 68, rfl⟩
abbrev main_cst_4 : Ref sig .tc := ⟨.hbm, 69, rfl⟩
abbrev main_v41 : Ref sig .tc := ⟨.hbm, 70, rfl⟩
abbrev main_v42 : Ref sig .tc := ⟨.hbm, 71, rfl⟩
abbrev main_cst_5 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_c : Ref sig .tc := ⟨.hbm, 78, rfl⟩
abbrev main_call2_v0 : Ref sig .tc := ⟨.hbm, 79, rfl⟩
abbrev main_call2_v1 : Ref sig .tc := ⟨.hbm, 80, rfl⟩
abbrev main_call2_v2 : Ref sig .tc := ⟨.hbm, 81, rfl⟩
abbrev main_v48 : Ref sig .tc := ⟨.hbm, 82, rfl⟩
abbrev main_c_6 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_c_7 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_cst_8 : Ref sig .tc := ⟨.hbm, 96, rfl⟩
abbrev main_v60 : Ref sig .tc := ⟨.hbm, 97, rfl⟩
abbrev main_v61 : Ref sig .tc := ⟨.hbm, 98, rfl⟩
abbrev main_cst_9 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_c_10 : Ref sig .tc := ⟨.hbm, 105, rfl⟩
abbrev main_v67 : Ref sig .tc := ⟨.hbm, 106, rfl⟩
abbrev main_v68 : Ref sig .tc := ⟨.hbm, 107, rfl⟩
abbrev main_c_11 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_c_12 : Ref sig .tc := ⟨.hbm, 119, rfl⟩
abbrev main_v79 : Ref sig .tc := ⟨.hbm, 120, rfl⟩
abbrev main_v80 : Ref sig .tc := ⟨.hbm, 121, rfl⟩
abbrev main_c_13 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst_14 : Ref sig .tc := ⟨.hbm, 138, rfl⟩
abbrev main_v96 : Ref sig .tc := ⟨.hbm, 139, rfl⟩
abbrev main_v97 : Ref sig .tc := ⟨.hbm, 140, rfl⟩
abbrev main_cst_15 : Ref sig .tc := ⟨.hbm, 141, rfl⟩
abbrev main_v98 : Ref sig .tc := ⟨.hbm, 142, rfl⟩
abbrev main_v99 : Ref sig .tc := ⟨.hbm, 143, rfl⟩
abbrev main_c_16 : Ref sig .tc := ⟨.hbm, 144, rfl⟩
abbrev main_call3_cst : Ref sig .tc := ⟨.hbm, 145, rfl⟩
abbrev main_call3_v0 : Ref sig .tc := ⟨.hbm, 146, rfl⟩
abbrev main_call3_v1 : Ref sig .tc := ⟨.hbm, 147, rfl⟩
abbrev main_call3_cst_0 : Ref sig .tc := ⟨.hbm, 148, rfl⟩
abbrev main_call3_v2 : Ref sig .tc := ⟨.hbm, 149, rfl⟩
abbrev main_call3_v3 : Ref sig .tc := ⟨.hbm, 150, rfl⟩
abbrev main_call3_v4 : Ref sig .tc := ⟨.hbm, 151, rfl⟩
abbrev main_call3_v5 : Ref sig .tc := ⟨.hbm, 152, rfl⟩
abbrev main_call3_v6 : Ref sig .tc := ⟨.hbm, 153, rfl⟩
abbrev main_call3_v7 : Ref sig .tc := ⟨.hbm, 154, rfl⟩
abbrev main_call3_cst_1 : Ref sig .tc := ⟨.hbm, 155, rfl⟩
abbrev main_call3_v8 : Ref sig .tc := ⟨.hbm, 156, rfl⟩
abbrev main_call3_cst_2 : Ref sig .tc := ⟨.hbm, 157, rfl⟩
abbrev main_call3_v9 : Ref sig .tc := ⟨.hbm, 158, rfl⟩
abbrev main_call3_v10 : Ref sig .tc := ⟨.hbm, 159, rfl⟩
abbrev main_call3_v11 : Ref sig .tc := ⟨.hbm, 160, rfl⟩
abbrev main_call3_v12 : Ref sig .tc := ⟨.hbm, 161, rfl⟩
abbrev main_call3_cst_3 : Ref sig .tc := ⟨.hbm, 162, rfl⟩
abbrev main_call3_v13 : Ref sig .tc := ⟨.hbm, 163, rfl⟩
abbrev main_call3_cst_4 : Ref sig .tc := ⟨.hbm, 164, rfl⟩
abbrev main_call3_call0_v0 : Ref sig .tc := ⟨.hbm, 165, rfl⟩
abbrev main_call3_call0_v1 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_cst_17 : Ref sig .tc := ⟨.hbm, 170, rfl⟩
abbrev main_v103 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_cst_18 : Ref sig .tc := ⟨.hbm, 189, rfl⟩
abbrev main_v121 : Ref sig .tc := ⟨.hbm, 190, rfl⟩
abbrev main_v122 : Ref sig .tc := ⟨.hbm, 191, rfl⟩
abbrev main_v123 : Ref sig .tc := ⟨.hbm, 192, rfl⟩
abbrev main_cst_19 : Ref sig .tc := ⟨.hbm, 193, rfl⟩
abbrev main_v124 : Ref sig .tc := ⟨.hbm, 194, rfl⟩
abbrev main_v125 : Ref sig .tc := ⟨.hbm, 195, rfl⟩
abbrev main_v126 : Ref sig .tc := ⟨.hbm, 196, rfl⟩
abbrev main_v127 : Ref sig .tc := ⟨.hbm, 197, rfl⟩
abbrev main_v128 : Ref sig .tc := ⟨.hbm, 198, rfl⟩
abbrev main_v129 : Ref sig .tc := ⟨.hbm, 199, rfl⟩
abbrev main_v130 : Ref sig .tc := ⟨.hbm, 200, rfl⟩
abbrev main_v131 : Ref sig .tc := ⟨.hbm, 201, rfl⟩
abbrev main_v132 : Ref sig .tc := ⟨.hbm, 202, rfl⟩
abbrev main_v133 : Ref sig .tc := ⟨.hbm, 203, rfl⟩
abbrev main_cst_20 : Ref sig .tc := ⟨.hbm, 204, rfl⟩
abbrev main_v134 : Ref sig .tc := ⟨.hbm, 205, rfl⟩
abbrev main_v135 : Ref sig .tc := ⟨.hbm, 206, rfl⟩
abbrev main_cst_21 : Ref sig .tc := ⟨.hbm, 207, rfl⟩
abbrev main_v136 : Ref sig .tc := ⟨.hbm, 208, rfl⟩
abbrev main_v137 : Ref sig .tc := ⟨.hbm, 209, rfl⟩
abbrev main_c_22 : Ref sig .tc := ⟨.hbm, 210, rfl⟩
abbrev main_call4_cst : Ref sig .tc := ⟨.hbm, 211, rfl⟩
abbrev main_call4_v0 : Ref sig .tc := ⟨.hbm, 212, rfl⟩
abbrev main_call4_v1 : Ref sig .tc := ⟨.hbm, 213, rfl⟩
abbrev main_call4_cst_0 : Ref sig .tc := ⟨.hbm, 214, rfl⟩
abbrev main_call4_v2 : Ref sig .tc := ⟨.hbm, 215, rfl⟩
abbrev main_call4_v3 : Ref sig .tc := ⟨.hbm, 216, rfl⟩
abbrev main_call4_v4 : Ref sig .tc := ⟨.hbm, 217, rfl⟩
abbrev main_call4_v5 : Ref sig .tc := ⟨.hbm, 218, rfl⟩
abbrev main_call4_v6 : Ref sig .tc := ⟨.hbm, 219, rfl⟩
abbrev main_call4_v7 : Ref sig .tc := ⟨.hbm, 220, rfl⟩
abbrev main_call4_cst_1 : Ref sig .tc := ⟨.hbm, 221, rfl⟩
abbrev main_call4_v8 : Ref sig .tc := ⟨.hbm, 222, rfl⟩
abbrev main_call4_cst_2 : Ref sig .tc := ⟨.hbm, 223, rfl⟩
abbrev main_call4_v9 : Ref sig .tc := ⟨.hbm, 224, rfl⟩
abbrev main_call4_v10 : Ref sig .tc := ⟨.hbm, 225, rfl⟩
abbrev main_call4_v11 : Ref sig .tc := ⟨.hbm, 226, rfl⟩
abbrev main_call4_v12 : Ref sig .tc := ⟨.hbm, 227, rfl⟩
abbrev main_call4_cst_3 : Ref sig .tc := ⟨.hbm, 228, rfl⟩
abbrev main_call4_v13 : Ref sig .tc := ⟨.hbm, 229, rfl⟩
abbrev main_call4_cst_4 : Ref sig .tc := ⟨.hbm, 230, rfl⟩
abbrev main_call4_call0_v0 : Ref sig .tc := ⟨.hbm, 231, rfl⟩
abbrev main_call4_call0_v1 : Ref sig .tc := ⟨.hbm, 232, rfl⟩
abbrev main_v138 : Ref sig .tc := ⟨.hbm, 233, rfl⟩
abbrev main_v139 : Ref sig .tc := ⟨.hbm, 234, rfl⟩
abbrev main_v140 : Ref sig .tc := ⟨.hbm, 235, rfl⟩
abbrev main_cst_23 : Ref sig .tc := ⟨.hbm, 236, rfl⟩
abbrev main_v141 : Ref sig .tc := ⟨.hbm, 237, rfl⟩
abbrev main_v142 : Ref sig .tc := ⟨.hbm, 238, rfl⟩
abbrev main_v143 : Ref sig .tc := ⟨.hbm, 239, rfl⟩
abbrev main_v144 : Ref sig .tc := ⟨.hbm, 240, rfl⟩
abbrev main_v145 : Ref sig .tc := ⟨.hbm, 241, rfl⟩
abbrev main_v146 : Ref sig .tc := ⟨.hbm, 242, rfl⟩
abbrev main_v147 : Ref sig .tc := ⟨.hbm, 243, rfl⟩
abbrev main_v148 : Ref sig .tc := ⟨.hbm, 244, rfl⟩
abbrev main_v149 : Ref sig .tc := ⟨.hbm, 245, rfl⟩
abbrev main_v150 : Ref sig .tc := ⟨.hbm, 246, rfl⟩
abbrev main_v151 : Ref sig .tc := ⟨.hbm, 247, rfl⟩
abbrev main_v152 : Ref sig .tc := ⟨.hbm, 248, rfl⟩

abbrev nD : Nat := 1
abbrev τ : Topo := Topo.v7x

variable {F : FTy → Type} [FloatOps F]
-- ==== Proof.Numbers.lean ====
/- Extended reals that are numbers: sums, products, quotients, roots and the constants of the two programs, read as
   operations of the real numbers. -/
module

public import Idealize.ShloMosaic.Lib.Pointwise

@[expose] public section

noncomputable section

namespace Cert.Block

open Idealize.ShloMosaic

/-- A finite sum of numbers is the number that is their real sum. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The quotient of two numbers, the divisor not zero, is the number that is their real quotient. -/
theorem div_coe_coe (x : ℝ) {y : ℝ} (h : y ≠ 0) : Ideal.div (x : EReal) (y : EReal) = ((x / y : ℝ) : EReal) := by
  rw [Ideal.div_coe h, ← EReal.coe_mul, mul_one_div]

/-- The square root of a number that is not negative. -/
theorem sqrt_coe_nonneg {x : ℝ} (h : 0 ≤ x) : Ideal.sqrt (x : EReal) = ((√x : ℝ) : EReal) := by
  rw [Ideal.sqrt_coe, if_neg (not_lt.mpr h)]

/-- The reciprocal square root of a positive number. -/
theorem rsqrt_coe_pos {x : ℝ} (h : 0 < x) : Ideal.rsqrt (x : EReal) = (((√x)⁻¹ : ℝ) : EReal) := by
  rw [Ideal.rsqrt_coe, if_neg (not_lt.mpr h.le), if_neg h.ne']

/-- The larger of two numbers. -/
theorem max_coe_coe (x y : ℝ) : max (x : EReal) (y : EReal) = ((max x y : ℝ) : EReal) := (EReal.coe_strictMono.monotone.map_max).symm

/-- A number less itself is zero. -/
theorem sub_self_coe (x : ℝ) : (x : EReal) - (x : EReal) = 0 := by rw [← EReal.coe_sub, sub_self, EReal.coe_zero]

/-- The sigmoid of an extended real is a number, whatever the argument. -/
theorem logistic_eq_coe (x : EReal) : Ideal.logistic x = (((Ideal.logistic x).toReal : ℝ) : EReal) := by
  induction x using EReal.rec with
  | bot => simp
  | coe r => simp
  | top => simp

/-- The sigmoid is not negative. -/
theorem logistic_toReal_nonneg (x : EReal) : 0 ≤ (Ideal.logistic x).toReal := by
  induction x using EReal.rec with
  | bot => simp
  | coe r => rw [Ideal.logistic_coe, EReal.toReal_coe]; positivity
  | top => simp

/-- The largest of finitely many numbers, folded from minus infinity. -/
theorem fold_max_coe {n : ℕ} [NeZero n] (f : Fin n → ℝ) :
    Finset.univ.fold max (⊥ : EReal) (fun i => ((f i : ℝ) : EReal))
      = ((Finset.univ.sup' ⟨0, Finset.mem_univ _⟩ f : ℝ) : EReal) := by
  apply le_antisymm
  · rw [Finset.fold_max_le]
    exact ⟨bot_le, fun i _ => EReal.coe_le_coe_iff.mpr (Finset.le_sup' f (Finset.mem_univ i))⟩
  · obtain ⟨i, _, hi⟩ := Finset.exists_mem_eq_sup' (⟨0, Finset.mem_univ _⟩ : (Finset.univ : Finset (Fin n)).Nonempty) f
    rw [hi, Finset.le_fold_max]
    exact Or.inr ⟨i, Finset.mem_univ _, le_rfl⟩

/-! ## The constants -/

/-- Minus infinity. -/
theorem ofBits_bot : Ideal.ofBits .f32 0xFF800000#32 = ⊥ := by simp [Ideal.ofBits, Ideal.ieee]

/-- Plus infinity. -/
theorem ofBits_top : Ideal.ofBits .f32 0x7F800000#32 = ⊤ := by simp [Ideal.ofBits, Ideal.ieee]

/-- The number of entries a group norm of one image runs over, 384 · 112 · 112. -/
theorem ofBits_count : Ideal.ofBits .f32 0x4A930000#32 = ((4816896 : ℝ) : EReal) := by
  simp [Ideal.ofBits, Ideal.ieee]; norm_num [zpow_ofNat]; rw [← EReal.coe_mul]; norm_num

/-- The number of pixels of one pooling cell. -/
theorem ofBits_64 : Ideal.ofBits .f32 0x42800000#32 = ((64 : ℝ) : EReal) := by
  simp [Ideal.ofBits, Ideal.ieee]; norm_num [zpow_neg]; rw [← EReal.coe_mul]; norm_num

/-- Its reciprocal. -/
theorem ofBits_inv64 : Ideal.ofBits .f32 0x3C800000#32 = ((1 / 64 : ℝ) : EReal) := by
  simp [Ideal.ofBits, Ideal.ieee]; norm_num [zpow_neg]; rw [← EReal.coe_mul]; norm_num

/-- One half. -/
theorem ofBits_half : Ideal.ofBits .f32 0x3F000000#32 = ((1 / 2 : ℝ) : EReal) := by
  simp [Ideal.ofBits, Ideal.ieee]; norm_num [zpow_neg]; rw [← EReal.coe_mul]; norm_num

/-- The floor under the length of a vector. -/
def normFloor : ℝ := (Ideal.ofBits .f32 0x2B8CBCCC#32).toReal
/-- What is added to a variance. -/
def varFloor : ℝ := (Ideal.ofBits .f32 0x3727C5AC#32).toReal
/-- The argument's factor in the error function of the activation. -/
def erfScale : ℝ := (Ideal.ofBits .f32 0x3F3504F3#32).toReal

/-- The programs' constant under the lengths is the real number `normFloor`. -/
theorem ofBits_normFloor : Ideal.ofBits .f32 0x2B8CBCCC#32 = (normFloor : EReal) := by
  simp [normFloor, Ideal.ofBits, Ideal.ieee]; rw [← EReal.coe_mul, EReal.toReal_coe]
/-- The floor of the lengths is positive. -/
theorem normFloor_pos : 0 < normFloor := by
  simp [normFloor, Ideal.ofBits, Ideal.ieee, zpow_neg]; rw [← EReal.coe_mul, EReal.toReal_coe]; positivity
/-- The programs' constant added to the variance is the real number `varFloor`. -/
theorem ofBits_varFloor : Ideal.ofBits .f32 0x3727C5AC#32 = (varFloor : EReal) := by
  simp [varFloor, Ideal.ofBits, Ideal.ieee]; rw [← EReal.coe_mul, EReal.toReal_coe]
/-- The floor of the variance is positive. -/
theorem varFloor_pos : 0 < varFloor := by
  simp [varFloor, Ideal.ofBits, Ideal.ieee, zpow_neg]; rw [← EReal.coe_mul, EReal.toReal_coe]; positivity
/-- The programs' constant inside the error function is the real number `erfScale`. -/
theorem ofBits_erfScale : Ideal.ofBits .f32 0x3F3504F3#32 = (erfScale : EReal) := by
  simp [erfScale, Ideal.ofBits, Ideal.ieee]; rw [← EReal.coe_mul, EReal.toReal_coe]

end Cert.Block

end
-- ==== Proof.Inputs.lean ====
/- What the precondition `finite_inputs` says of the eleven arrays it speaks of: every entry is a real number. -/
module

public import proofs.«01_k».proof.Defs
public import proofs.«01_k».proof.Proof.Numbers
public import Idealize.ShloMosaic.PureOps.Ideal.Laws

@[expose] public section

set_option maxRecDepth 16384

noncomputable section

open Idealize.ShloMosaic Idealize.SL.Sem

namespace Cert.Block

/-- The side conditions of the precondition's operations. -/
theorem preFacts : Cert.Pre_finite_inputs.Facts where
  bcast_S_S2x384x112x112 := by decide
  bcast_S_S768x384 := by decide
  bcast_S_S768 := by decide
  bcast_S_S384x384 := by decide
  bcast_S_S384 := by decide
  bcast_S_S768x768 := by decide
  bcast_S_S384x768 := by decide

/-- An array every entry of which has an absolute value below infinity holds real numbers. -/
theorem real_of_finite {s : Shape} (x : FVec Ideal s .f32) (hb : (⟨0, ![]⟩ : Shape).BroadcastsInDim s (![] : Fin 0 → Fin s.rank))
    (h : cmpf .olt (Host.absf x) (broadcastInDim s ![] hb (constant ⟨0, ![]⟩ .f32 0x7F800000#32)) = fun _ => 1#1) (i : s.Idx) :
    x i = (((x i : EReal).toReal : ℝ) : EReal) := by
  have h' := congrFun h i
  have hlt : FloatOps.cmpf (F := Ideal) .olt (FloatOps.absf (x i)) (Ideal.ofBits .f32 0x7F800000#32) = 1#1 := h'
  have hlt' : Ideal.cmp .olt (max (x i : EReal) (-(x i : EReal))) (Ideal.ofBits .f32 0x7F800000#32) = 1#1 := hlt
  rw [ofBits_top] at hlt'
  have hm : max (x i : EReal) (-(x i : EReal)) < ⊤ := by
    by_contra hn
    simp [Ideal.cmp, hn] at hlt'
  obtain ⟨h1, h2⟩ := max_lt_iff.mp hm
  refine (EReal.coe_toReal h1.ne fun hbot => ?_).symm
  rw [hbot] at h2
  simp at h2

/-- What the precondition says: of eleven of the arguments, every entry is a real number. -/
structure Finite (x : FVec Ideal Cert.Pre_finite_inputs.S2x384x112x112 .f32) (x1 : FVec Ideal Cert.Pre_finite_inputs.S768x384 .f32)
    (x2 : FVec Ideal Cert.Pre_finite_inputs.S768 .f32) (x3 : FVec Ideal Cert.Pre_finite_inputs.S384x384 .f32) (x4 x7 x8 : FVec Ideal Cert.Pre_finite_inputs.S384 .f32)
    (x9 : FVec Ideal Cert.Pre_finite_inputs.S768x768 .f32) (x10 : FVec Ideal Cert.Pre_finite_inputs.S768 .f32) (x11 : FVec Ideal Cert.Pre_finite_inputs.S384x768 .f32)
    (x12 : FVec Ideal Cert.Pre_finite_inputs.S384 .f32) : Prop where
  h0 : ∀ i, x i = (((x i : EReal).toReal : ℝ) : EReal)
  h1 : ∀ i, x1 i = (((x1 i : EReal).toReal : ℝ) : EReal)
  h2 : ∀ i, x2 i = (((x2 i : EReal).toReal : ℝ) : EReal)
  h3 : ∀ i, x3 i = (((x3 i : EReal).toReal : ℝ) : EReal)
  h4 : ∀ i, x4 i = (((x4 i : EReal).toReal : ℝ) : EReal)
  h7 : ∀ i, x7 i = (((x7 i : EReal).toReal : ℝ) : EReal)
  h8 : ∀ i, x8 i = (((x8 i : EReal).toReal : ℝ) : EReal)
  h9 : ∀ i, x9 i = (((x9 i : EReal).toReal : ℝ) : EReal)
  h10 : ∀ i, x10 i = (((x10 i : EReal).toReal : ℝ) : EReal)
  h11 : ∀ i, x11 i = (((x11 i : EReal).toReal : ℝ) : EReal)
  h12 : ∀ i, x12 i = (((x12 i : EReal).toReal : ℝ) : EReal)

/-- The kernel's precondition gives it of the kernel's argument arrays on every device. -/
theorem finite_of_pre (m : (ℓ : Loc Cert.KernelIdeal.nD Cert.KernelIdeal.τ Cert.KernelIdeal.sig) → Buf (Elt Ideal) ℓ)
    (h : Cert.Pre_KernelIdeal_finite_inputs (hPre_finite_inputs := preFacts) m) (c : Dev Cert.KernelIdeal.nD) :
    Finite (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) := by
  obtain ⟨h0, h1, h2, h3, h4, h7, h8, h9, h10, h11, h12⟩ := h c
  exact ⟨real_of_finite _ (by decide) h0, real_of_finite _ (by decide) h1, real_of_finite _ (by decide) h2, real_of_finite _ (by decide) h3,
    real_of_finite _ (by decide) h4, real_of_finite _ (by decide) h7, real_of_finite _ (by decide) h8, real_of_finite _ (by decide) h9,
    real_of_finite _ (by decide) h10, real_of_finite _ (by decide) h11, real_of_finite _ (by decide) h12⟩

end Cert.Block

end
-- ==== Proof.KernelRun.lean ====
/- The kernel's run: it ends with the result array at the contents the chain of boundaries gives it, and the arguments unchanged. -/
module

public import proofs.«01_k».proof.Proof.Gen.KernelIdeal.Frame

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

namespace Cert.KernelIdeal.Value

open Cert.KernelIdeal Cert.KernelIdeal.Gen

variable {F : FTy → Type} [FloatOps F] (m : (ℓ : Loc nD τ sig) → Buf (Elt F) ℓ) (ρ : Dev nD → PrngReg)

set_option backward.isDefEq.respectTransparency.types false in
/-- Every weakly fair execution terminates, and every unscoped buffer of a device then reads as the last boundary's contents. -/
theorem run_boundary : θ_run defs (onTc (τ := τ) (main (F := F))) ⟨m, fun _ => 0, ρ⟩
    (fun r => ∀ c : Dev nD, ∀ b ∈ Pipeline.ucRefs τ sig, r.2.mem ((c : Thread nD τ).1, b) = W15 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Htoks
      imodintro
      isplitl [Htoks]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Htoks
      · iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by
          rw [BI.bigSep_emp_const])
        iempintro)
    (T₀ := fun c => iprop(StableHlo.held (c : Thread nD τ) (Pipeline.ucRefs τ sig) (W0 m ρ c) ∗ R c)) (Tₙ := Tₙ m ρ)
    (hch := by
      refine ⟨fun _ => .rfl, fun _ => .rfl, fun _ => .rfl, fun _ => .rfl, fun _ => .rfl, fun _ => .rfl, fun _ => .rfl, fun _ => .rfl, fun _ => .rfl,
        fun _ => .rfl, fun _ => .rfl, fun _ => .rfl, fun _ => .rfl, fun _ => .rfl, fun _ => .rfl, fun c => ?_⟩
      dsimp only [Pipeline.Seg.post, hseg, Pipeline.HostSeg.ofOps]
      iintro ⟨Hheld, Hreg, Howed⟩
      isplitl [Hheld Hreg]
      · isplitl [Hheld]
        · iexact Hheld
        · iexact Hreg
      · iexact Howed)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hheld, -, Howed, -, Hreg, -⟩, -⟩
      imodintro
      isplitl [Hheld]
      · iexact Hheld
      · isplitl [Hreg]
        · iexists _; iexact Hreg
        · iexists ∅; iexact Howed)
    (QY := fun c s => ∀ b ∈ Pipeline.ucRefs τ sig, s.mem ((c : Thread nD τ).1, b) = W15 m ρ c b)
    (hfin := fun c s' => by
      iintro ⟨⟨Hheld, -⟩, Hst⟩
      unfold StableHlo.held
      imodintro
      iapply (pointsTo_read_all (Pipeline.ucRefs τ sig) (fun b => ((c : Thread nD τ).1, b)) (W15 m ρ c) s')
      isplitl [Hheld] <;> iassumption)
    (hQ := fun s h => h)

/-- The result array after the run, and every argument array. -/
theorem run_result : θ_run defs (onTc (τ := τ) (main (F := F))) ⟨m, fun _ => 0, ρ⟩
    (fun r => ∀ c : Dev nD, r.2.mem ((c : Thread nD τ).loc main_v36) = W15 m ρ c (Proc.devRef .tc main_v36)
      ∧ ∀ a ∈ argRefs, r.2.mem ((c : Thread nD τ).loc a) = m ((c : Thread nD τ).loc a)) :=
  (θ_run defs _ _).mono (fun r h c => ⟨h c _ (mem_uc main_v36 (by decide)), fun a ha =>
    (h c _ (mem_uc a ((by decide : ∀ a ∈ argRefs, ¬ (Proc.devRef .tc a : DevRef τ sig).isScoped) a ha))).trans (W15_args m ρ c a ha)⟩) (run_boundary m ρ)

end Cert.KernelIdeal.Value

end
-- ==== Proof.Model.lean ====
/- The clustering block over the real numbers: what both programs compute, part by part, on one tile of 56 by 56 pixels
   (a pixel is its row-major number, below 3136), on one image (its four tiles) and on the whole input. -/
module

public import proofs.«01_k».proof.Proof.Numbers

@[expose] public section

noncomputable section

namespace Cert.Block

open Idealize.ShloMosaic

/-! ## One group of 96 channels on one tile -/

/-- The pooling cell, of 7 by 7, that pixel `l` of a tile lies in. -/
def cellOf (l : Fin 3136) : Fin 49 := ⟨l.val / 56 / 8 * 7 + l.val % 56 / 8, by omega⟩
/-- The row and the column of the input where pixel `l` of a tile lies. -/
def rowAt (h : Fin 2) (l : Fin 3136) : Fin 112 := ⟨h.val * 56 + l.val / 56, by omega⟩
/-- The column of the input at which pixel `l` of a tile stands. -/
def colAt (w : Fin 2) (l : Fin 3136) : Fin 112 := ⟨w.val * 56 + l.val % 56, by omega⟩
/-- The tile, and the pixel in it, of a row and a column of the input. -/
def tileOf (p : Fin 112) : Fin 2 := ⟨p.val / 56, by omega⟩
/-- The pixel, in its tile, of a row and a column of the input. -/
def pixelOf (p q : Fin 112) : Fin 3136 := ⟨p.val % 56 * 56 + q.val % 56, by omega⟩
/-- The row of the pixel of a row and a column is that row. -/
theorem rowAt_of (p q : Fin 112) : rowAt (tileOf p) (pixelOf p q) = p := Fin.ext (by simp only [rowAt, tileOf, pixelOf]; omega)
/-- The column of the pixel of a row and a column is that column. -/
theorem colAt_of (p q : Fin 112) : colAt (tileOf q) (pixelOf p q) = q := Fin.ext (by simp only [colAt, tileOf, pixelOf]; omega)
/-- The input cut into tiles. -/
def tiles (X : Fin 2 → Fin 384 → Fin 112 → Fin 112 → ℝ) (n h w : Fin 2) (k : Fin 384) (l : Fin 3136) : ℝ := X n k (rowAt h l) (colAt w l)
/-- Channel `c` of the half that is compared. -/
def lo (c : Fin 48) : Fin 96 := ⟨c.val, by omega⟩
/-- Channel `c` of the half that is carried. -/
def hi (c : Fin 48) : Fin 96 := ⟨48 + c.val, by omega⟩

section Cell
variable (a b : EReal) (y : Fin 96 → Fin 3136 → ℝ)

/-- The mean of channel `c` over cell `s`. -/
def center (c : Fin 96) (s : Fin 49) : ℝ := ∑ l, y c l * (if cellOf l = s then 1 / 64 else 0)
/-- The length of a pixel's compared half, at least the floor. -/
def pointLen (l : Fin 3136) : ℝ := max (√(∑ c, y (lo c) l * y (lo c) l)) normFloor
/-- The length of a cell's compared half, at least the floor. -/
def centerLen (s : Fin 49) : ℝ := max (√(∑ c, center y (lo c) s * center y (lo c) s)) normFloor
/-- The cosine between cell `s` and pixel `l`. -/
def cosine (s : Fin 49) (l : Fin 3136) : ℝ := ∑ c, center y (lo c) s / centerLen y s * (y (lo c) l / pointLen y l)
/-- The similarity of cell `s` and pixel `l`. -/
def sim (s : Fin 49) (l : Fin 3136) : ℝ := (Ideal.logistic (a * (cosine y s l : EReal) + b)).toReal
/-- The largest similarity of pixel `l` to a cell. -/
def best (l : Fin 3136) : ℝ := Finset.univ.sup' ⟨0, Finset.mem_univ _⟩ fun s : Fin 49 => sim a b y s l
/-- Some cell has the largest similarity. -/
theorem exists_best (l : Fin 3136) : (Finset.univ.filter fun s : Fin 49 => sim a b y s l = best a b y l).Nonempty := by
  obtain ⟨s, _, hs⟩ := Finset.exists_mem_eq_sup' (⟨0, Finset.mem_univ _⟩ : (Finset.univ : Finset (Fin 49)).Nonempty)
    (fun s : Fin 49 => sim a b y s l)
  exact ⟨s, Finset.mem_filter.mpr ⟨Finset.mem_univ _, hs.symm⟩⟩
/-- The first cell of the largest similarity: the one pixel `l` belongs to. -/
def pick (l : Fin 3136) : Fin 49 := (Finset.univ.filter fun s : Fin 49 => sim a b y s l = best a b y l).min' (exists_best a b y l)
/-- The weight of pixel `l` in cell `s`: its similarity where it belongs, zero elsewhere. -/
def share (s : Fin 49) (l : Fin 3136) : ℝ := if pick a b y l = s then best a b y l else 0
/-- The new value of cell `s` in carried channel `c`: its mean and its pixels', by weight. -/
def moved (c : Fin 48) (s : Fin 49) : ℝ :=
  (center y (hi c) s + ∑ l, y (hi c) l * share a b y s l) / (1 + ∑ l, share a b y s l)
/-- What the group hands on at carried channel `c` and pixel `l`: the value of the pixel's cell, by weight. -/
def spread (c : Fin 48) (l : Fin 3136) : ℝ := ∑ s, moved a b y c s * share a b y s l

/-- A pixel's floored length is positive. -/
theorem pointLen_pos (l : Fin 3136) : 0 < pointLen y l := lt_max_of_lt_right normFloor_pos
/-- A cell's floored length is positive. -/
theorem centerLen_pos (s : Fin 49) : 0 < centerLen y s := lt_max_of_lt_right normFloor_pos
/-- A similarity is not negative. -/
theorem sim_nonneg (s : Fin 49) (l : Fin 3136) : 0 ≤ sim a b y s l := logistic_toReal_nonneg _
/-- No similarity is above the largest. -/
theorem sim_le_best (s : Fin 49) (l : Fin 3136) : sim a b y s l ≤ best a b y l :=
  Finset.le_sup' (fun s : Fin 49 => sim a b y s l) (Finset.mem_univ s)
/-- The largest similarity is not negative. -/
theorem best_nonneg (l : Fin 3136) : 0 ≤ best a b y l := (sim_nonneg a b y 0 l).trans (sim_le_best a b y 0 l)
/-- No pixel gives a cell a negative weight. -/
theorem share_nonneg (s : Fin 49) (l : Fin 3136) : 0 ≤ share a b y s l := by
  unfold share; split
  · exact best_nonneg a b y l
  · exact le_rfl
/-- A cell's total weight, with its own 1, is positive. -/
theorem weight_pos (s : Fin 49) : 0 < 1 + ∑ l, share a b y s l := by
  have := Finset.sum_nonneg fun l (_ : l ∈ Finset.univ) => share_nonneg a b y s l
  linarith

/-- The cell picked has the largest similarity. -/
theorem pick_best (l : Fin 3136) : sim a b y (pick a b y l) l = best a b y l :=
  (Finset.mem_filter.mp (Finset.min'_mem _ (exists_best a b y l))).2
/-- The cell picked is the first with the largest similarity. -/
theorem pick_le (l : Fin 3136) (s : Fin 49) (h : sim a b y s l = best a b y l) : pick a b y l ≤ s :=
  Finset.min'_le (Finset.univ.filter fun s : Fin 49 => sim a b y s l = best a b y l) s
    (Finset.mem_filter.mpr ⟨Finset.mem_univ _, h⟩)

/-- The cell of pixel `l` alone gives it a value. -/
theorem spread_eq (c : Fin 48) (l : Fin 3136) : spread a b y c l = moved a b y c (pick a b y l) * best a b y l := by
  unfold spread share
  rw [Finset.sum_eq_single (pick a b y l)]
  · rw [if_pos rfl]
  · intro s _ hs; rw [if_neg (Ne.symm hs), mul_zero]
  · intro h; exact absurd (Finset.mem_univ _) h

/-- Among the cells of the largest similarity of pixel `l`, the count of those up to `s` is one at the first alone. -/
theorem count_first (s : Fin 49) (l : Fin 3136) (h : sim a b y s l = best a b y l) :
    (∑ k : Fin 49, (if k ≤ s then 1 else 0) * (if sim a b y k l = best a b y l then (1 : ℝ) else 0)) = 1 ↔ pick a b y l = s := by
  have hsum : (∑ k : Fin 49, (if k ≤ s then 1 else 0) * (if sim a b y k l = best a b y l then (1 : ℝ) else 0))
      = ((Finset.univ.filter fun k : Fin 49 => k ≤ s ∧ sim a b y k l = best a b y l).card : ℝ) := by
    rw [Finset.card_filter, Nat.cast_sum]
    refine Finset.sum_congr rfl fun k _ => ?_
    by_cases h1 : k ≤ s <;> by_cases h2 : sim a b y k l = best a b y l <;> simp [h1, h2]
  rw [hsum, Nat.cast_eq_one, Finset.card_eq_one]
  have hs : s ∈ Finset.univ.filter fun k : Fin 49 => k ≤ s ∧ sim a b y k l = best a b y l := by simp [h]
  have hp : pick a b y l ∈ Finset.univ.filter fun k : Fin 49 => k ≤ s ∧ sim a b y k l = best a b y l := by
    simp [pick_best, pick_le a b y l s h]
  constructor
  · rintro ⟨k, hk⟩
    rw [hk, Finset.mem_singleton] at hs hp
    rw [hs, hp]
  · intro he
    refine ⟨s, Finset.eq_singleton_iff_unique_mem.mpr ⟨hs, fun k hk => ?_⟩⟩
    simp only [Finset.mem_filter, Finset.mem_univ, true_and] at hk
    exact le_antisymm hk.1 (he ▸ pick_le a b y l k hk.2)

end Cell

/-! ## One tile -/

section Tile
variable (a b : EReal) (pw : Fin 768 → Fin 384 → ℝ) (pb : Fin 768 → ℝ) (mw : Fin 384 → Fin 384 → ℝ) (mb : Fin 384 → ℝ)
  (X : Fin 384 → Fin 3136 → ℝ)

/-- Channel `c` of group `g` after the first projection. -/
def chan (g : Fin 8) (c : Fin 96) : Fin 768 := ⟨96 * g.val + c.val, by omega⟩
/-- The group a channel of the clustered tile comes from, and its number there. -/
def grp (k : Fin 384) : Fin 8 := ⟨k.val / 48, by omega⟩
/-- A channel's place in its group of 48. -/
def chanIn (k : Fin 384) : Fin 48 := ⟨k.val % 48, by omega⟩
/-- The first projection of a tile. -/
def proj (g : Fin 8) (c : Fin 96) (l : Fin 3136) : ℝ := ∑ k, pw (chan g c) k * X k l + pb (chan g c)
/-- The clustered tile: its 8 groups' results. -/
def clustered (k : Fin 384) (l : Fin 3136) : ℝ := spread a b (proj pw pb X (grp k)) (chanIn k) l
/-- The second projection. -/
def merged (o : Fin 384) (l : Fin 3136) : ℝ := ∑ k, mw o k * clustered a b pw pb X k l + mb o

end Tile

/-! ## The normalisation of one image -/

section Norm
variable (M : Fin 2 → Fin 2 → Fin 384 → Fin 3136 → ℝ)

/-- The sum over an image. -/
def total : ℝ := ∑ h, ∑ w, ∑ o, ∑ l, M h w o l
/-- The mean of an image. -/
def mean : ℝ := total M / 4816896
/-- The mean square distance from the mean. -/
def variance : ℝ := total (fun h w o l => (M h w o l - mean M) * (M h w o l - mean M)) / 4816896
/-- The normalised image, before weight and bias. -/
def normed (h w : Fin 2) (o : Fin 384) (l : Fin 3136) : ℝ := (M h w o l - mean M) / √(variance M + varFloor)

/-- A sum of nonnegative numbers over an image is not negative. -/
theorem total_nonneg (h : ∀ h w o l, 0 ≤ M h w o l) : 0 ≤ total M :=
  Finset.sum_nonneg fun _ _ => Finset.sum_nonneg fun _ _ => Finset.sum_nonneg fun _ _ => Finset.sum_nonneg fun _ _ => h ..
/-- The variance is not negative. -/
theorem variance_nonneg : 0 ≤ variance M := div_nonneg (total_nonneg _ fun _ _ _ _ => mul_self_nonneg _) (by norm_num)
/-- The variance plus its floor is positive. -/
theorem std_pos : 0 < variance M + varFloor := add_pos_of_nonneg_of_pos (variance_nonneg M) varFloor_pos

/-- The mean square distance from the mean is the mean square less the squared mean. -/
theorem variance_eq : variance M = total (fun h w o l => M h w o l * M h w o l) / 4816896 - mean M * mean M := by
  have hc : total (fun _ _ _ _ => mean M * mean M) = 4816896 * (mean M * mean M) := by
    simp only [total, Finset.sum_const, Finset.card_univ, Fintype.card_fin, nsmul_eq_mul]; push_cast; ring
  have hm : total (fun h w o l => M h w o l * mean M) = mean M * (4816896 * mean M) := by
    have : total (fun h w o l => M h w o l * mean M) = total M * mean M := by simp only [total, Finset.sum_mul]
    rw [this, mean]; ring
  have hv : total (fun h w o l => (M h w o l - mean M) * (M h w o l - mean M))
      = total (fun h w o l => M h w o l * M h w o l) - 2 * total (fun h w o l => M h w o l * mean M)
        + total (fun _ _ _ _ => mean M * mean M) := by
    simp only [total, Finset.mul_sum, ← Finset.sum_sub_distrib, ← Finset.sum_add_distrib]
    refine Finset.sum_congr rfl fun _ _ => Finset.sum_congr rfl fun _ _ => Finset.sum_congr rfl fun _ _ =>
      Finset.sum_congr rfl fun _ _ => ?_
    ring
  rw [variance, hv, hc, hm]; ring

end Norm

/-! ## The two-layer network at a pixel -/

section Mlp
variable (w0 : Fin 768 → Fin 768 → ℝ) (b0 : Fin 768 → ℝ) (w1 : Fin 384 → Fin 768 → ℝ) (b1 : Fin 384 → ℝ)
  (X G : Fin 384 → Fin 3136 → ℝ)

/-- Column `k` of the first half of the first layer's weights, which meets the input. -/
def left (k : Fin 384) : Fin 768 := ⟨k.val, by omega⟩
/-- Column `k` of the second half, which meets the clustered image. -/
def right (k : Fin 384) : Fin 768 := ⟨384 + k.val, by omega⟩
/-- The first layer. -/
def hidden (j : Fin 768) (l : Fin 3136) : ℝ := ∑ k, w0 j (left k) * X k l + ∑ k, w0 j (right k) * G k l + b0 j
/-- The error function on the real numbers. -/
def erfR (r : ℝ) : ℝ := (Ideal.erf (r : EReal)).toReal
/-- The error function of a real number is a real number. -/
theorem erf_coe (r : ℝ) : Ideal.erf (r : EReal) = (erfR r : EReal) := by rw [erfR, Ideal.erf_coe, EReal.toReal_coe]
/-- The activation. -/
def gelu (r : ℝ) : ℝ := 1 / 2 * r * (1 + erfR (r * erfScale))
/-- The second layer. -/
def mlp (o : Fin 384) (l : Fin 3136) : ℝ := ∑ j, w1 o j * gelu (hidden w0 b0 X G j l) + b1 o

end Mlp

end Cert.Block

end
-- ==== Proof.KernelNorm.lean ====
/- The normalisation and the two-layer network on one tile in the second and third kernels, read as real numbers. -/
module

public import proofs.«01_k».proof.Proof.Gen.KernelIdeal.Skeleton
public import proofs.«01_k».proof.Proof.Model

@[expose] public section

set_option maxRecDepth 16384

noncomputable section

open Idealize.ShloMosaic Idealize.ShloMosaic.TcCoe Idealize.SL.Sem

namespace Cert.KernelIdeal.Value

open Cert.KernelIdeal Cert.KernelIdeal.Gen Cert.Block

/-- The image a grid point belongs to, and the row and column of its tile in it. -/
def img0 (t : Fin 8) : Fin 2 := ⟨t.val / 4, by omega⟩
/-- The row of tiles of a grid point. -/
def row0 (t : Fin 8) : Fin 2 := ⟨t.val / 2 % 2, by omega⟩
/-- The column of tiles of a grid point. -/
def col0 (t : Fin 8) : Fin 2 := ⟨t.val % 2, by omega⟩
/-- The grid point of a tile. -/
def pointOf (n h w : Fin 2) : Fin 8 := ⟨4 * n.val + 2 * h.val + w.val, by omega⟩
/-- The image of a tile's grid point is the tile's. -/
theorem img0_pointOf (n h w : Fin 2) : img0 (pointOf n h w) = n := Fin.ext (by simp only [img0, pointOf]; omega)
/-- The row of tiles of a tile's grid point is the tile's. -/
theorem row0_pointOf (n h w : Fin 2) : row0 (pointOf n h w) = h := Fin.ext (by simp only [row0, pointOf]; omega)
/-- The column of tiles of a tile's grid point is the tile's. -/
theorem col0_pointOf (n h w : Fin 2) : col0 (pointOf n h w) = w := Fin.ext (by simp only [col0, pointOf]; omega)

/-- The sum over one tile of an image. -/
def tile (M : Fin 2 → Fin 2 → Fin 384 → Fin 3136 → ℝ) (h w : Fin 2) : ℝ := ∑ o, ∑ l, M h w o l
/-- The squares of an image. -/
def sq (M : Fin 2 → Fin 2 → Fin 384 → Fin 3136 → ℝ) : Fin 2 → Fin 2 → Fin 384 → Fin 3136 → ℝ := fun h w o l => M h w o l * M h w o l

/-- The sum over an image is the sum of its four tiles' sums. -/
theorem total_tiles (M : Fin 2 → Fin 2 → Fin 384 → Fin 3136 → ℝ) :
    total M = tile M 0 0 + tile M 0 1 + tile M 1 0 + tile M 1 1 := by
  simp only [total, tile, Fin.sum_univ_two]; ring

/-- The mean the body computes from the four tiles' sums. -/
theorem mean_at (M : Fin 2 → Fin 2 → Fin 384 → Fin 3136 → ℝ) :
    Ideal.div ((tile M 0 0 : EReal) + (tile M 0 1 : EReal) + (tile M 1 0 : EReal) + (tile M 1 1 : EReal)) (Ideal.ofBits .f32 0x4A930000#32)
      = (mean M : EReal) := by
  rw [ofBits_count, ← EReal.coe_add, ← EReal.coe_add, ← EReal.coe_add, ← total_tiles, div_coe_coe _ (by norm_num)]; rfl
/-- The normalised tile times its weight. -/
theorem norm1_at (M : Fin 2 → Fin 2 → Fin 384 → Fin 3136 → ℝ) (h w : Fin 2) (s00 s01 s10 s11 q00 q01 q10 q11 : Elt Ideal .f32)
    (m : Vec Ideal S1x1x1x384x3136 .bf16) (g : Vec Ideal S384x1 .f32)
    (hs00 : s00 = (tile M 0 0 : EReal)) (hs01 : s01 = (tile M 0 1 : EReal)) (hs10 : s10 = (tile M 1 0 : EReal)) (hs11 : s11 = (tile M 1 1 : EReal))
    (hq00 : q00 = (tile (sq M) 0 0 : EReal)) (hq01 : q01 = (tile (sq M) 0 1 : EReal)) (hq10 : q10 = (tile (sq M) 1 0 : EReal))
    (hq11 : q11 = (tile (sq M) 1 1 : EReal))
    (hm : ∀ o l, m (ix5 0 0 0 o l) = (M h w o l : EReal)) (o : Fin 384) (l : Fin 3136) :
    k1_pay6 (k1_pay4 q00 q01) (k1_pay5 s00 s01 s10) q10 s11 q11 m g (ix2 o l) = (normed M h w o l : EReal) * g (ix2 o 0) := by
  subst hs00 hs01 hs10 hs11 hq00 hq01 hq10 hq11
  pointwise [k1_pay6, k1_pay4, k1_pay5, hm]
  simp only [zero_add, mean_at]
  simp only [← EReal.coe_mul, ← EReal.coe_sub, ofBits_varFloor, ← EReal.coe_add]
  rw [show mean (sq M) - mean M * mean M = variance M from (variance_eq M).symm]
  change (((M h w o l - mean M : ℝ) : EReal) * Ideal.rsqrt ((variance M + varFloor : ℝ) : EReal)) * _ = _
  rw [rsqrt_coe_pos (std_pos M), ← EReal.coe_mul, ← div_eq_mul_inv]; rfl

/-- The same of the third kernel. -/
theorem norm2_at (M : Fin 2 → Fin 2 → Fin 384 → Fin 3136 → ℝ) (h w : Fin 2) (s00 s01 s10 s11 q00 q01 q10 q11 : Elt Ideal .f32)
    (m : Vec Ideal S1x1x1x384x3136 .bf16) (g : Vec Ideal S384x1 .f32)
    (hs00 : s00 = (tile M 0 0 : EReal)) (hs01 : s01 = (tile M 0 1 : EReal)) (hs10 : s10 = (tile M 1 0 : EReal)) (hs11 : s11 = (tile M 1 1 : EReal))
    (hq00 : q00 = (tile (sq M) 0 0 : EReal)) (hq01 : q01 = (tile (sq M) 0 1 : EReal)) (hq10 : q10 = (tile (sq M) 1 0 : EReal))
    (hq11 : q11 = (tile (sq M) 1 1 : EReal))
    (hm : ∀ o l, m (ix5 0 0 0 o l) = (M h w o l : EReal)) (o : Fin 384) (l : Fin 3136) :
    k2_pay4 (k2_pay2 q00 q01) (k2_pay3 s00 s01 s10) q10 s11 q11 m g (ix2 o l) = (normed M h w o l : EReal) * g (ix2 o 0) :=
  norm1_at M h w s00 s01 s10 s11 q00 q01 q10 q11 m g hs00 hs01 hs10 hs11 hq00 hq01 hq10 hq11 hm o l

/-- The activation as the body computes it. -/
theorem gelu_at (r : ℝ) : Ideal.ofBits .f32 0x3F000000#32 * (r : EReal) * (1 + Ideal.erf ((r : EReal) * Ideal.ofBits .f32 0x3F3504F3#32)) = (gelu r : EReal) := by
  rw [ofBits_half, ofBits_erfScale, ← EReal.coe_mul, ← EReal.coe_mul, erf_coe, ← EReal.coe_one, ← EReal.coe_add, ← EReal.coe_mul]
  rfl

/-- The network on a tile. -/
theorem mlp_at (v : FVec Ideal S384x3136 .f32) (gb : Vec Ideal S384x1 .f32) (x : Vec Ideal S1x1x1x384x3136 .f32) (w0 : Vec Ideal S768x768 .f32)
    (b0 : Vec Ideal S768x1 .f32) (w1 : Vec Ideal S384x768 .f32) (b1 : Vec Ideal S384x1 .f32)
    (N X : Fin 384 → Fin 3136 → ℝ) (GB : Fin 384 → ℝ) (W0 : Fin 768 → Fin 768 → ℝ) (B0 : Fin 768 → ℝ) (W1 : Fin 384 → Fin 768 → ℝ) (B1 : Fin 384 → ℝ)
    (hv : ∀ o l, v (ix2 o l) = (N o l : EReal)) (hgb : ∀ o, gb (ix2 o 0) = (GB o : EReal)) (hx : ∀ k l, x (ix5 0 0 0 k l) = (X k l : EReal))
    (hw0 : ∀ j k, w0 (ix2 j k) = (W0 j k : EReal)) (hb0 : ∀ j, b0 (ix2 j 0) = (B0 j : EReal))
    (hw1 : ∀ o j, w1 (ix2 o j) = (W1 o j : EReal)) (hb1 : ∀ o, b1 (ix2 o 0) = (B1 o : EReal)) (o : Fin 384) (l : Fin 3136) :
    k1_pay7 v gb x w0 b0 w1 b1 (ix2 o l) = (mlp W0 B0 W1 B1 X (fun k l => N k l + GB k) o l : EReal) := by
  pointwise [k1_pay7, hv, hgb, hx, hw0, hb0, hw1, hb1]
  change (∑ j, (W1 o j : EReal) * (Ideal.ofBits .f32 0x3F000000#32
      * (∑ k, (W0 j (left k) : EReal) * (X k l : EReal) + ∑ k, (W0 j (right k) : EReal) * ((N k l : EReal) + (GB k : EReal)) + (B0 j : EReal))
      * (1 + Ideal.erf ((∑ k, (W0 j (left k) : EReal) * (X k l : EReal) + ∑ k, (W0 j (right k) : EReal) * ((N k l : EReal) + (GB k : EReal))
        + (B0 j : EReal)) * Ideal.ofBits .f32 0x3F3504F3#32)))) + (B1 o : EReal) = _
  simp only [← EReal.coe_mul, coe_sum, ← EReal.coe_add]
  simp only [gelu_at]
  simp only [← EReal.coe_mul, coe_sum, ← EReal.coe_add]
  rfl

/-- The sums over a tile that the second kernel leaves. -/
theorem sum1_at (v : FVec Ideal S384x3136 .f32) (M : Fin 2 → Fin 2 → Fin 384 → Fin 3136 → ℝ) (h w : Fin 2)
    (hv : ∀ o l, v (ix2 o l) = (M h w o l : EReal)) : k1_pay2 v = (tile M h w : EReal) := by
  pointwise [k1_pay2, hv]
  simp only [coe_sum]; rfl
/-- The second kernel's sum of squares over its tile. -/
theorem sumsq1_at (v : FVec Ideal S384x3136 .f32) (M : Fin 2 → Fin 2 → Fin 384 → Fin 3136 → ℝ) (h w : Fin 2)
    (hv : ∀ o l, v (ix2 o l) = (M h w o l : EReal)) : k1_pay3 v = (tile (sq M) h w : EReal) := by
  pointwise [k1_pay3, hv]
  simp only [← EReal.coe_mul, coe_sum]; rfl

end Cert.KernelIdeal.Value

end
-- ==== Proof.HostPrep.lean ====
/- What the host code before the first kernel lays out: the input cut into tiles, and the pooling matrix. -/
module

public import proofs.«01_k».proof.Proof.Gen.KernelIdeal.Frame
public import proofs.«01_k».proof.Proof.KernelNorm
public import Idealize.ShloMosaic.Lib.Pipeline.ValueKit

@[expose] public section

set_option maxRecDepth 16384

noncomputable section

open Idealize.ShloMosaic Idealize.ShloMosaic.TcCoe Idealize.SL.Sem

namespace Cert.KernelIdeal.Value

open Cert.KernelIdeal Cert.KernelIdeal.Gen Cert.Block

variable (m : (ℓ : Loc nD τ sig) → Buf (Elt Ideal) ℓ) (ρ : Dev nD → PrngReg) (c : Dev nD)

/-- The input cut, transposed and flattened into tiles reads, at a tile and a pixel of it, the input at the pixel's row and column. -/
theorem tiles_at (x : FVec Ideal S2x384x112x112 .f32) (n h w : Fin 2) (k : Fin 384) (l : Fin 3136) :
    shapeCast S2x2x2x384x3136 (transpose S2x2x2x384x56x56 [0, 2, 4, 1, 3, 5] (shapeCast S2x384x2x56x2x56 x shapeCasts_S2x384x112x112_S2x384x2x56x2x56)
      transposes_S2x384x2x56x2x56_S2x2x2x384x56x56_0_2_4_1_3_5) shapeCasts_S2x2x2x384x56x56_S2x2x2x384x3136 (ix5 n h w k l)
    = x (ix4 n k (rowAt h l) (colAt w l)) := by
  pointwise
  rfl

/-- What the later stretches of the host code before the first launch do not write is as the first stretch left it. -/
theorem W9_of_W1 (r : Ref sig .tc) (h1 : r ∉ hostOps0_1_W) (h2 : r ∉ hostOps0_2_W) (h3 : r ∉ hostOps0_3_W) (h4 : r ∉ hostOps0_4_W)
    (h5 : r ∉ hostOps0_5_W) (h6 : r ∉ hostOps0_6_W) (h7 : r ∉ hostOps0_7_W) (h8 : r ∉ hostOps0_8_W) :
    W9 m ρ c (Proc.devRef .tc r) = W1 m ρ c (Proc.devRef .tc r) := by
  rw [W9_of _ _ _ _ h8, W8_of _ _ _ _ h7, W7_of _ _ _ _ h6, W6_of _ _ _ _ h5, W5_of _ _ _ _ h4, W4_of _ _ _ _ h3, W3_of _ _ _ _ h2, W2_of _ _ _ _ h1]

/-- The input, cut into tiles. -/
theorem W9_x (n h w : Fin 2) (k : Fin 384) (l : Fin 3136) :
    (W9 m ρ c (Proc.devRef .tc main_v2) : FVec Ideal S2x2x2x384x3136 .f32) (ix5 n h w k l)
      = (m ((c : Thread nD τ).loc main_arg0) : FVec Ideal S2x384x112x112 .f32) (ix4 n k (rowAt h l) (colAt w l)) := by
  refine Eq.trans (congrFun ?_ _) (tiles_at _ n h w k l)
  rw [W9_of_W1 m ρ c main_v2 (by decide) (by decide) (by decide) (by decide) (by decide) (by decide) (by decide) (by decide)]
  unfold_abbrev_sides
  after_results
  rfl
/-- A vector of 768 laid out as a column reads the same. -/
theorem col768_at (x : FVec Ideal S768 .f32) (o : Fin 768) : shapeCast S768x1 x shapeCasts_S768_S768x1 (ix2 o 0) = x (ix1 o) := by pointwise
/-- A vector of 384 laid out as a column reads the same. -/
theorem col384_at (x : FVec Ideal S384 .f32) (o : Fin 384) : shapeCast S384x1 x shapeCasts_S384_S384x1 (ix2 o 0) = x (ix1 o) := by pointwise
/-- A single number laid out as a 1 by 1 array reads the same. -/
theorem col1_at (x : FVec Ideal S1 .f32) : shapeCast S1x1 x shapeCasts_S1_S1x1 (ix2 0 0) = x (ix1 0) := by pointwise
/-- The first launch finds the projection's bias in its column. -/
theorem W9_pb (o : Fin 768) : (W9 m ρ c (Proc.devRef .tc main_v3) : FVec Ideal S768x1 .f32) (ix2 o 0)
    = (m ((c : Thread nD τ).loc main_arg2) : FVec Ideal S768 .f32) (ix1 o) := by
  refine Eq.trans (congrFun ?_ _) (col768_at _ o)
  rw [W9_of_W1 m ρ c main_v3 (by decide) (by decide) (by decide) (by decide) (by decide) (by decide) (by decide) (by decide)]
  unfold_abbrev_sides
  after_results
  rfl
/-- The first launch finds the merge's bias in its column. -/
theorem W9_mb (o : Fin 384) : (W9 m ρ c (Proc.devRef .tc main_v4) : FVec Ideal S384x1 .f32) (ix2 o 0)
    = (m ((c : Thread nD τ).loc main_arg4) : FVec Ideal S384 .f32) (ix1 o) := by
  refine Eq.trans (congrFun ?_ _) (col384_at _ o)
  rw [W9_of_W1 m ρ c main_v4 (by decide) (by decide) (by decide) (by decide) (by decide) (by decide) (by decide) (by decide)]
  unfold_abbrev_sides
  after_results
  rfl
/-- The first launch finds the similarity's factor. -/
theorem W9_a : (W9 m ρ c (Proc.devRef .tc main_v5) : FVec Ideal S1x1 .f32) (ix2 0 0)
    = (m ((c : Thread nD τ).loc main_arg5) : FVec Ideal S1 .f32) (ix1 0) := by
  refine Eq.trans (congrFun ?_ _) (col1_at _)
  rw [W9_of_W1 m ρ c main_v5 (by decide) (by decide) (by decide) (by decide) (by decide) (by decide) (by decide) (by decide)]
  unfold_abbrev_sides
  after_results
  rfl
/-- The first launch finds the similarity's shift. -/
theorem W9_b : (W9 m ρ c (Proc.devRef .tc main_v6) : FVec Ideal S1x1 .f32) (ix2 0 0)
    = (m ((c : Thread nD τ).loc main_arg6) : FVec Ideal S1 .f32) (ix1 0) := by
  refine Eq.trans (congrFun ?_ _) (col1_at _)
  rw [W9_of_W1 m ρ c main_v6 (by decide) (by decide) (by decide) (by decide) (by decide) (by decide) (by decide) (by decide)]
  unfold_abbrev_sides
  after_results
  rfl

/-- Division rounding down, as the host computes it on a column of numbers. -/
def floorDiv (v : IVec S3136x1 32) (d : IVec S_ 32) : IVec S3136x1 32 :=
  select (andi (cmpi .ne (signi v) (broadcastInDim S3136x1 ![] bcast_S_S3136x1 (signi d)))
      (cmpi .ne (Host.remsi v (broadcastInDim S3136x1 ![] bcast_S_S3136x1 d)) (broadcastInDim S3136x1 ![] bcast_S_S3136x1 (constantI S_ 32 0#32))))
    (subi (Host.divsi v (broadcastInDim S3136x1 ![] bcast_S_S3136x1 d)) (broadcastInDim S3136x1 ![] bcast_S_S3136x1 (constantI S_ 32 1#32)))
    (Host.divsi v (broadcastInDim S3136x1 ![] bcast_S_S3136x1 d))

/-- The same on one number. -/
def floorDiv1 (a d : BitVec 32) : BitVec 32 :=
  Scalar.select (IntOp.andi
      (IntOp.cmpi CmpIPredicate.ne (if a = 0 then (0 : BitVec 32) else if a.msb = true then -1 else 1) (if d = 0 then 0 else if d.msb = true then -1 else 1))
      (IntOp.cmpi CmpIPredicate.ne (IntOp.remsi ArithUnit.host a d) 0#32))
    (IntOp.subi (IntOp.divsi ArithUnit.host a d) 1#32) (IntOp.divsi ArithUnit.host a d)

/-- The array form of floor division is floor division of each word. -/
theorem floorDiv_at (v : IVec S3136x1 32) (d : IVec S_ 32) (l : Fin 3136) : floorDiv v d (ix2 l 0) = floorDiv1 (v (ix2 l 0)) (d ix0) := by
  pointwise [floorDiv]
  rfl

/-- A pixel's row, its cell's row, and its cell's column. -/
theorem row_of : ∀ l : Fin 3136, floorDiv1 (BitVec.ofNat 32 l.val) 56#32 = BitVec.ofNat 32 (l.val / 56) := by decide +kernel
/-- Floor division by 8 of the word of a row or column number is the word of its eighth. -/
theorem eighth_of : ∀ k : Fin 56, floorDiv1 (BitVec.ofNat 32 k.val) 8#32 = BitVec.ofNat 32 (k.val / 8) := by decide +kernel
/-- A pixel number less 56 times its row is its column. -/
theorem col_of : ∀ l : Fin 3136, IntOp.subi (BitVec.ofNat 32 l.val) (IntOp.muli (BitVec.ofNat 32 (l.val / 56)) 56#32) = BitVec.ofNat 32 (l.val % 56) := by decide +kernel
/-- The word comparison the host makes of a pixel and a cell says whether the pixel lies in the cell. -/
theorem cell_of : ∀ (l : Fin 3136) , ∀ s : Fin 49,
    IntOp.cmpi .eq (IntOp.addi (IntOp.muli (BitVec.ofNat 32 (l.val / 56 / 8)) 7#32) (BitVec.ofNat 32 (l.val % 56 / 8))) (BitVec.ofNat 32 s.val)
      = if cellOf l = s then 1#1 else 0#1 := by
  intro l s
  have h1 : IntOp.addi (IntOp.muli (BitVec.ofNat 32 (l.val / 56 / 8)) 7#32) (BitVec.ofNat 32 (l.val % 56 / 8)) = BitVec.ofNat 32 (cellOf l).val :=
    (by decide +kernel : ∀ l : Fin 3136, IntOp.addi (IntOp.muli (BitVec.ofNat 32 (l.val / 56 / 8)) 7#32) (BitVec.ofNat 32 (l.val % 56 / 8))
      = BitVec.ofNat 32 (cellOf l).val) l
  rw [h1]
  exact (by decide +kernel : ∀ t s : Fin 49, IntOp.cmpi .eq (BitVec.ofNat 32 t.val) (BitVec.ofNat 32 s.val) = if t = s then 1#1 else 0#1) _ _

/-- The second stretch leaves the floor division of the pixel numbers by the word set before it. -/
theorem W2_row : (W2 m ρ c (Proc.devRef .tc main_v11) : IVec S3136x1 32) = floorDiv (W1 m ρ c (Proc.devRef .tc main_v8)) (W1 m ρ c (Proc.devRef .tc main_c)) := by
  generalize hX : W1 m ρ c = X
  show StableHlo.after hostOps0_1 (W1 m ρ c) _ = _
  rw [hX]
  after_results
  rfl
/-- The fourth stretch leaves the floor division of the rows by the word set before it. -/
theorem W4_cellRow : (W4 m ρ c (Proc.devRef .tc main_v15) : IVec S3136x1 32) = floorDiv (W3 m ρ c (Proc.devRef .tc main_v11)) (W3 m ρ c (Proc.devRef .tc main_c_1)) := by
  generalize hX : W3 m ρ c = X
  show StableHlo.after hostOps0_3 (W3 m ρ c) _ = _
  rw [hX]
  after_results
  rfl
/-- The sixth stretch leaves the floor division of the columns by the word set before it. -/
theorem W6_cellCol : (W6 m ρ c (Proc.devRef .tc main_v18) : IVec S3136x1 32) = floorDiv (W5 m ρ c (Proc.devRef .tc main_v14)) (W5 m ρ c (Proc.devRef .tc main_c_3)) := by
  generalize hX : W5 m ρ c = X
  show StableHlo.after hostOps0_5 (W5 m ρ c) _ = _
  rw [hX]
  after_results
  rfl

/-- The pixel numbers. -/
theorem W1_v8 (l : Fin 3136) : (W1 m ρ c (Proc.devRef .tc main_v8) : IVec S3136x1 32) (ix2 l 0) = BitVec.ofNat 32 l.val := by
  have h : (W1 m ρ c (Proc.devRef .tc main_v8) : IVec S3136x1 32) = broadcastInDim S3136x1 ![0] bcast_S3136_S3136x1_0 (iotaInDim S3136 32 0) := by
    unfold_abbrev_sides
    after_results
  rw [h]
  pointwise
/-- The pixels' rows. -/
theorem W2_v11 (l : Fin 3136) : (W2 m ρ c (Proc.devRef .tc main_v11) : IVec S3136x1 32) (ix2 l 0) = BitVec.ofNat 32 (l.val / 56) := by
  have h : (W1 m ρ c (Proc.devRef .tc main_c) : IVec S_ 32) = constantI S_ 32 56#32 := by
    unfold_abbrev_sides
    after_results
  rw [W2_row, h, floorDiv_at, W1_v8]
  exact row_of l
/-- The pixels' columns. -/
theorem W3_v14 (l : Fin 3136) : (W3 m ρ c (Proc.devRef .tc main_v14) : IVec S3136x1 32) (ix2 l 0) = BitVec.ofNat 32 (l.val % 56) := by
  have h : (W3 m ρ c (Proc.devRef .tc main_v14) : IVec S3136x1 32)
      = subi (W2 m ρ c (Proc.devRef .tc main_v8) : IVec S3136x1 32) (muli (W2 m ρ c (Proc.devRef .tc main_v11) : IVec S3136x1 32)
        (broadcastInDim S3136x1 ![] bcast_S_S3136x1 (constantI S_ 32 56#32))) := by
    generalize hX : W2 m ρ c = X
    show StableHlo.after hostOps0_2 (W2 m ρ c) _ = _
    rw [hX]
    after_results
  rw [h, W2_of _ _ _ _ (by decide)]
  show IntOp.subi _ (IntOp.muli _ 56#32) = _
  rw [W1_v8, W2_v11]
  exact col_of l
/-- The rows' cell rows. -/
theorem W4_v15 (l : Fin 3136) : (W4 m ρ c (Proc.devRef .tc main_v15) : IVec S3136x1 32) (ix2 l 0) = BitVec.ofNat 32 (l.val / 56 / 8) := by
  have h : (W3 m ρ c (Proc.devRef .tc main_c_1) : IVec S_ 32) = constantI S_ 32 8#32 := by
    show StableHlo.after hostOps0_2 (W2 m ρ c) _ = _
    after_results
  rw [W4_cellRow, h, floorDiv_at, W3_of _ _ _ _ (by decide), W2_v11]
  exact eighth_of ⟨l.val / 56, by omega⟩
/-- The columns' cell columns. -/
theorem W6_v18 (l : Fin 3136) : (W6 m ρ c (Proc.devRef .tc main_v18) : IVec S3136x1 32) (ix2 l 0) = BitVec.ofNat 32 (l.val % 56 / 8) := by
  have h : (W5 m ρ c (Proc.devRef .tc main_c_3) : IVec S_ 32) = constantI S_ 32 8#32 := by
    show StableHlo.after hostOps0_4 (W4 m ρ c) _ = _
    after_results
  rw [W6_cellCol, h, floorDiv_at, W5_of _ _ _ _ (by decide), W4_of _ _ _ _ (by decide), W3_v14]
  exact eighth_of ⟨l.val % 56, by omega⟩
/-- The number of the first cell in a pixel's row of cells. -/
theorem W5_v17 (l : Fin 3136) : (W5 m ρ c (Proc.devRef .tc main_v17) : IVec S3136x1 32) (ix2 l 0) = IntOp.muli (BitVec.ofNat 32 (l.val / 56 / 8)) 7#32 := by
  have h : (W5 m ρ c (Proc.devRef .tc main_v17) : IVec S3136x1 32)
      = muli (W4 m ρ c (Proc.devRef .tc main_v15) : IVec S3136x1 32) (broadcastInDim S3136x1 ![] bcast_S_S3136x1 (constantI S_ 32 7#32)) := by
    generalize hX : W4 m ρ c = X
    show StableHlo.after hostOps0_4 (W4 m ρ c) _ = _
    rw [hX]
    after_results
  rw [h]
  show IntOp.muli _ 7#32 = _
  rw [W4_v15]
/-- The cell numbers. -/
theorem W1_v10 (s : Fin 49) : (W1 m ρ c (Proc.devRef .tc main_v10) : IVec S1x49 32) (ix2 0 s) = BitVec.ofNat 32 s.val := by
  have h : (W1 m ρ c (Proc.devRef .tc main_v10) : IVec S1x49 32) = broadcastInDim S1x49 ![1] bcast_S49_S1x49_1 (iotaInDim S49 32 0) := by
    unfold_abbrev_sides
    after_results
  rw [h]
  pointwise
/-- Whether a pixel lies in a cell, as a bit. -/
theorem W7_v22 (l : Fin 3136) (s : Fin 49) : (W7 m ρ c (Proc.devRef .tc main_v22) : IVec S3136x49 1) (ix2 l s) = if cellOf l = s then 1#1 else 0#1 := by
  have h : (W7 m ρ c (Proc.devRef .tc main_v22) : IVec S3136x49 1)
      = cmpi .eq (broadcastInDim S3136x49 ![0, 1] bcast_S3136x1_S3136x49_0_1 (addi (W6 m ρ c (Proc.devRef .tc main_v17) : IVec S3136x1 32) (W6 m ρ c (Proc.devRef .tc main_v18) : IVec S3136x1 32)))
        (broadcastInDim S3136x49 ![0, 1] bcast_S1x49_S3136x49_0_1 (W6 m ρ c (Proc.devRef .tc main_v10) : IVec S1x49 32)) := by
    generalize hX : W6 m ρ c = X
    show StableHlo.after hostOps0_6 (W6 m ρ c) _ = _
    rw [hX]
    after_results
  have h17 : (W6 m ρ c (Proc.devRef .tc main_v17) : IVec S3136x1 32) (ix2 l 0) = _ := (congrFun (W6_of _ _ _ _ (by decide)) _).trans (W5_v17 m ρ c l)
  have h18 := W6_v18 m ρ c l
  have h10 : (W6 m ρ c (Proc.devRef .tc main_v10) : IVec S1x49 32) (ix2 0 s) = BitVec.ofNat 32 s.val := by
    rw [W6_of _ _ _ _ (by decide), W5_of _ _ _ _ (by decide), W4_of _ _ _ _ (by decide), W3_of _ _ _ _ (by decide), W2_of _ _ _ _ (by decide)]
    exact W1_v10 m ρ c s
  rw [h]
  generalize (W6 m ρ c (Proc.devRef .tc main_v17) : IVec S3136x1 32) = a at *
  generalize (W6 m ρ c (Proc.devRef .tc main_v18) : IVec S3136x1 32) = b at *
  generalize (W6 m ρ c (Proc.devRef .tc main_v10) : IVec S1x49 32) = d at *
  clear h
  pointwise [h17, h18, h10]
  exact cell_of l s
/-- The pooling matrix: a pixel counts one sixty-fourth in its own cell. -/
theorem W9_q (l : Fin 3136) (s : Fin 49) : (W9 m ρ c (Proc.devRef .tc main_v24) : FVec Ideal S3136x49 .bf16) (ix2 l s)
    = ((if cellOf l = s then 1 / 64 else 0 : ℝ) : EReal) := by
  have h9 : (W9 m ρ c (Proc.devRef .tc main_v24) : FVec Ideal S3136x49 .bf16) = (truncf .bf16 (W8 m ρ c (Proc.devRef .tc main_v23) : FVec Ideal S3136x49 .f32) bitsLt_bf16_f32 : FVec Ideal S3136x49 .bf16) := by
    show StableHlo.after hostOps0_8 (W8 m ρ c) _ = _
    after_results
  have h8 : (W8 m ρ c (Proc.devRef .tc main_v23) : FVec Ideal S3136x49 .f32)
      = select (W7 m ρ c (Proc.devRef .tc main_v22) : IVec S3136x49 1) (broadcastInDim S3136x49 ![] bcast_S_S3136x49 (W7 m ρ c (Proc.devRef .tc main_cst) : FVec Ideal S_ .f32))
        (broadcastInDim S3136x49 ![] bcast_S_S3136x49 (W7 m ρ c (Proc.devRef .tc main_cst_4) : FVec Ideal S_ .f32)) := by
    generalize hX : W7 m ρ c = X
    show StableHlo.after hostOps0_7 (W7 m ρ c) _ = _
    rw [hX]
    after_results
    rfl
  have hc : (W7 m ρ c (Proc.devRef .tc main_cst) : FVec Ideal S_ .f32) = (constant S_ .f32 0x3C800000#32 : FVec Ideal S_ .f32) := by
    show StableHlo.after hostOps0_6 (W6 m ρ c) _ = _
    after_results
  have hc4 : (W7 m ρ c (Proc.devRef .tc main_cst_4) : FVec Ideal S_ .f32) = (constant S_ .f32 0x00000000#32 : FVec Ideal S_ .f32) := by
    show StableHlo.after hostOps0_6 (W6 m ρ c) _ = _
    after_results
  have h22 := W7_v22 m ρ c l s
  rw [h9, h8, hc, hc4]
  generalize (W7 m ρ c (Proc.devRef .tc main_v22) : IVec S3136x49 1) = v at *
  clear h9 h8 hc hc4
  show Scalar.select (v (ix2 l s)) (Ideal.ofBits .f32 0x3C800000#32) (Ideal.ofBits .f32 0x00000000#32) = _
  rw [h22]
  by_cases hl : cellOf l = s
  · rw [if_pos hl, if_pos hl, Scalar.select, if_pos (by decide)]
    exact ofBits_inv64
  · rw [if_neg hl, if_neg hl, Scalar.select, if_neg (by decide)]
    exact Ideal.ofBits_zero_f32

end Cert.KernelIdeal.Value

end
-- ==== Proof.KernelRow.lean ====
/- One group of 96 channels on one tile in the first kernel: the row block of 48 channels its body stores, read as the real
   numbers of `Cert.Block.spread`. -/
module

public import proofs.«01_k».proof.Proof.Gen.KernelIdeal.Skeleton
public import proofs.«01_k».proof.Proof.Model

@[expose] public section

set_option maxRecDepth 16384

noncomputable section

open Idealize.ShloMosaic Idealize.ShloMosaic.TcCoe Idealize.SL.Sem

namespace Cert.KernelIdeal.Value

open Cert.KernelIdeal Cert.KernelIdeal.Gen Cert.Block

/-- The row block the body stores for one group: the composition of its steps over the tile `x`, the pooling matrix `q`, the
    similarity's scale and offset, and the group's rows of the projection's weight and bias. -/
def row (x : Vec Ideal S1x1x1x384x3136 .f32) (q : Vec Ideal S3136x49 .bf16) (a b : Elt Ideal .f32)
    (w : Vec Ideal S96x384 .f32) (p : Vec Ideal S96x1 .f32) : FVec Ideal S48x3136 .bf16 :=
  k0_pay18 (k0_pay11 (k0_pay7 x q w p)) (k0_pay12 a b k0_pay5 (k0_pay8 x w p) (k0_pay10 x q w p))
    (k0_pay14 (k0_pay9 x w p)) (k0_pay15 (k0_pay9 x w p))
    (k0_pay16 a b k0_pay5 (k0_pay8 x w p) (k0_pay10 x q w p)) (k0_pay17 a b k0_pay5 (k0_pay8 x w p) (k0_pay10 x q w p))
    (constant S49x49 .f32 0x00000000#32)

section
variable (x : Vec Ideal S1x1x1x384x3136 .f32) (q : Vec Ideal S3136x49 .bf16) (a b : Elt Ideal .f32)
  (w : Vec Ideal S96x384 .f32) (p : Vec Ideal S96x1 .f32)
  (X : Fin 384 → Fin 3136 → ℝ) (W : Fin 96 → Fin 384 → ℝ) (B : Fin 96 → ℝ) (y : Fin 96 → Fin 3136 → ℝ)

/-- The group's projected channels. -/
theorem y_at (hx : ∀ k l, x (ix5 0 0 0 k l) = (X k l : EReal)) (hw : ∀ c k, w (ix2 c k) = (W c k : EReal))
    (hp : ∀ c, p (ix2 c 0) = (B c : EReal)) (c : Fin 96) (l : Fin 3136) :
    k0_pay6 x w p (ix2 c l) = ((∑ k, W c k * X k l + B c : ℝ) : EReal) := by
  pointwise [k0_pay6, k0_pay3, hx, hw, hp]
  simp only [zero_add, ← EReal.coe_mul, coe_sum, ← EReal.coe_add]

/-- The cells' means. -/
theorem center_at (hy : ∀ c l, k0_pay6 x w p (ix2 c l) = (y c l : EReal))
    (hq : ∀ l s, q (ix2 l s) = ((if cellOf l = s then 1 / 64 else 0 : ℝ) : EReal)) (c : Fin 96) (s : Fin 49) :
    k0_pay7 x q w p (ix2 c s) = (center y c s : EReal) := by
  pointwise [k0_pay7, k0_pay4, hy, hq]
  simp only [sub_self_coe, sub_zero, ← EReal.coe_mul, coe_sum, zero_add, zero_mul, Finset.sum_const_zero, add_zero]
  rfl

/-- The triangle of ones the body counts with. -/
theorem ltri_at (s k : Fin 49) : k0_pay5 (F := Ideal) (ix2 s k) = ((if k ≤ s then 1 else 0 : ℝ) : EReal) := by
  pointwise [k0_pay5]
  have hc : ∀ s k : Fin 49, IntOp.cmpi .sge (BitVec.ofNat 32 s.val) (BitVec.ofNat 32 k.val) = 1 ↔ k ≤ s := by decide +kernel
  by_cases h : k ≤ s
  · rw [Scalar.select, if_pos ((hc s k).mpr h), if_pos h, EReal.coe_one]
  · rw [Scalar.select, if_neg (fun h' => h ((hc s k).mp h')), if_neg h, EReal.coe_zero]

/-- The floored length of a cell's compared channels. -/
theorem centerLen_at (s : Fin 49) :
    max (Ideal.sqrt (∑ c, (center y (lo c) s : EReal) * (center y (lo c) s : EReal))) (Ideal.ofBits .f32 0x2B8CBCCC#32)
      = (centerLen y s : EReal) := by
  simp only [← EReal.coe_mul, coe_sum]
  rw [sqrt_coe_nonneg (Finset.sum_nonneg fun c _ => mul_self_nonneg _), ofBits_normFloor, max_coe_coe]
  rfl

/-- The floored length of a pixel's compared channels. -/
theorem pointLen_at (l : Fin 3136) :
    max (Ideal.sqrt (∑ c, (y (lo c) l : EReal) * (y (lo c) l : EReal))) (Ideal.ofBits .f32 0x2B8CBCCC#32)
      = (pointLen y l : EReal) := by
  simp only [← EReal.coe_mul, coe_sum]
  rw [sqrt_coe_nonneg (Finset.sum_nonneg fun c _ => mul_self_nonneg _), ofBits_normFloor, max_coe_coe]
  rfl

/-- The cosine, its two factors divided by their lengths. -/
theorem cosine_at (s : Fin 49) (l : Fin 3136) :
    ∑ c, Ideal.div (center y (lo c) s : EReal) (centerLen y s : EReal) * Ideal.div (y (lo c) l : EReal) (pointLen y l : EReal)
      = (cosine y s l : EReal) := by
  simp only [div_coe_coe _ (centerLen_pos y s).ne', div_coe_coe _ (pointLen_pos y l).ne', ← EReal.coe_mul, coe_sum]
  rfl

/-- The logistic function of the scaled and shifted cosine is the similarity, a real number. -/
theorem sim_at (a b : EReal) (s : Fin 49) (l : Fin 3136) :
    Ideal.logistic (a * (cosine y s l : EReal) + b) = (sim a b y s l : EReal) := logistic_eq_coe _

/-- The running maximum over the cells, from minus infinity, is the largest similarity. -/
theorem best_at (a b : EReal) (l : Fin 3136) :
    Finset.univ.fold max (Ideal.ofBits .f32 0xFF800000#32) (fun s : Fin 49 => (sim a b y s l : EReal)) = (best a b y l : EReal) := by
  rw [ofBits_bot, fold_max_coe]; rfl

/-- The mark of a cell of the largest similarity, as the kernel makes a number of a comparison. -/
theorem mark_at (a b : EReal) (s : Fin 49) (l : Fin 3136) :
    FloatOps.sitofp (F := Ideal) .f32 (BitVec.setWidth 32 (BitVec.ofBool (decide ((best a b y l : EReal) ≤ (sim a b y s l : EReal)))))
      = ((if sim a b y s l = best a b y l then 1 else 0 : ℝ) : EReal) := by
  have hiff : (best a b y l : EReal) ≤ (sim a b y s l : EReal) ↔ sim a b y s l = best a b y l := by
    rw [EReal.coe_le_coe_iff]
    exact ⟨fun h => le_antisymm (sim_le_best a b y s l) h, fun h => h.ge⟩
  by_cases h : sim a b y s l = best a b y l
  · rw [if_pos h, decide_eq_true (hiff.mpr h)]
    change (((BitVec.setWidth 32 (BitVec.ofBool true)).toInt : ℝ) : EReal) = _
    simp
  · rw [if_neg h, decide_eq_false (fun h' => h (hiff.mp h'))]
    change (((BitVec.setWidth 32 (BitVec.ofBool false)).toInt : ℝ) : EReal) = _
    simp

/-- The pixels' weights in the cells. -/
theorem share_at (tri : FVec Ideal S49x49 .bf16) (u : FVec Ideal S48x3136 .f32) (v : FVec Ideal S48x49 .f32)
    (htri : ∀ s k, tri (ix2 s k) = ((if k ≤ s then 1 else 0 : ℝ) : EReal))
    (hu : ∀ c l, u (ix2 c l) = (y (lo c) l : EReal))
    (hv : ∀ c s, v (ix2 c s) = (center y (lo c) s : EReal)) (s : Fin 49) (l : Fin 3136) :
    k0_pay12 a b tri u v (ix2 s l) = (share a b y s l : EReal) := by
  pointwise [k0_pay12, htri, hu, hv]
  simp only [centerLen_at, pointLen_at, cosine_at, sim_at, best_at, mark_at]
  simp only [← EReal.coe_mul, coe_sum, ← EReal.coe_one, EReal.coe_eq_coe_iff]
  by_cases h : sim a b y s l = best a b y l
  · simp only [count_first a b y s l h, if_pos h, share]
    split_ifs <;> simp
  · have hne : pick a b y l ≠ s := fun he => h (he ▸ pick_best a b y l)
    simp only [if_neg h, share, if_neg hne, EReal.coe_zero, ite_self, zero_mul]

/-- The row block, from the cells' means, the carried channels and the weights. -/
theorem spread_at (v36 : FVec Ideal S48x49 .f32) (v74 : FVec Ideal S49x3136 .f32) (v34 : FVec Ideal S48x3136 .f32)
    (h36 : ∀ c s, v36 (ix2 c s) = (center y (hi c) s : EReal)) (h34 : ∀ c l, v34 (ix2 c l) = (y (hi c) l : EReal))
    (h74 : ∀ s l, v74 (ix2 s l) = (share a b y s l : EReal)) (c : Fin 48) (l : Fin 3136) :
    k0_pay18 v36 v74 (k0_pay14 v34) (k0_pay15 v34) (truncf .bf16 v74 bitsLt_bf16_f32)
      (truncf .bf16 (subf v74 (extf .f32 (truncf .bf16 v74 bitsLt_bf16_f32) bitsLt_bf16_f32)) bitsLt_bf16_f32)
      (constant S49x49 .f32 0x00000000#32) (ix2 c l) = (spread a b y c l : EReal) := by
  pointwise [k0_pay18, k0_pay14, k0_pay15, k0_pay13, h36, h34, h74]
  have h1 : (1 : EReal) - 1 = 0 := sub_self_coe 1
  simp only [sub_self_coe, h1, ← EReal.coe_mul, coe_sum, mul_zero, zero_mul, Finset.sum_const_zero, add_zero, ← EReal.coe_add,
    ← EReal.coe_one, div_coe_coe _ (weight_pos a b y _).ne']
  rfl

/-- The row block of one group: its entry at carried channel `c` and pixel `l`. -/
theorem row_at (hx : ∀ k l, x (ix5 0 0 0 k l) = (X k l : EReal)) (hw : ∀ c k, w (ix2 c k) = (W c k : EReal))
    (hp : ∀ c, p (ix2 c 0) = (B c : EReal))
    (hq : ∀ l s, q (ix2 l s) = ((if cellOf l = s then 1 / 64 else 0 : ℝ) : EReal)) (c : Fin 48) (l : Fin 3136) :
    row x q a b w p (ix2 c l) = (spread a b (fun c l => ∑ k, W c k * X k l + B c) c l : EReal) := by
  have hy := y_at x w p X W B hx hw hp
  have hc := center_at x q w p (fun c l => ∑ k, W c k * X k l + B c) hy hq
  refine spread_at a b (fun c l => ∑ k, W c k * X k l + B c) _ _ _ ?_ ?_ ?_ c l
  · intro c s; pointwise [k0_pay11]; exact hc (hi c) s
  · intro c l; pointwise [k0_pay9]; exact hy (hi c) l
  · refine share_at a b (fun c l => ∑ k, W c k * X k l + B c) _ _ _ ltri_at ?_ ?_
    · intro c l; pointwise [k0_pay8]; exact hy (lo c) l
    · intro c s; pointwise [k0_pay10]; exact hc (lo c) s

end

end Cert.KernelIdeal.Value

end
-- ==== Proof.Region0.lean ====
/- The first kernel, which clusters: its result arrays as real numbers, from what its operands hold when it is entered. -/
module

public import proofs.«01_k».proof.Proof.Gen.KernelIdeal.Frame
public import proofs.«01_k».proof.Proof.KernelRow
public import proofs.«01_k».proof.Proof.KernelNorm
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Block

variable (V : (c : Dev nD) → (b : Ref sig .tc) → Buf (Elt Ideal) ((c : Thread nD τ).loc b))

/-- The block each operand and result holds at a grid point of the first kernel. -/
theorem idx0 : ∀ t : Fin cfg0.N, win0_0.index t = ![0, 0] ∧ win0_1.index t = ![0, 0]
    ∧ win0_2.index t = ![t.val / 4, t.val / 2 % 2, t.val % 2, 0, 0] ∧ win0_3.index t = ![0, 0] ∧ win0_4.index t = ![0, 0]
    ∧ win0_5.index t = ![0, 0] ∧ win0_6.index t = ![0, 0] ∧ win0_7.index t = ![0, 0]
    ∧ win0_8.index t = ![t.val / 4, t.val / 2 % 2, t.val % 2, 0, 0]
    ∧ win0_9.index t = ![t.val, 0, 0] ∧ win0_10.index t = ![t.val, 0, 0] :=
  (by decide +kernel : ∀ t : Fin grid0.N, _)

/-- What the first kernel's operands hold when it is entered. -/
structure Entry0 (c : Dev nD) (X : Fin 2 → Fin 2 → Fin 2 → Fin 384 → Fin 3136 → ℝ) (pw : Fin 768 → Fin 384 → ℝ) (pb : Fin 768 → ℝ)
    (mw : Fin 384 → Fin 384 → ℝ) (mb : Fin 384 → ℝ) (a b : EReal) : Prop where
  a : (V c main_v5 : FVec Ideal S1x1 .f32) (ix2 0 0) = a
  b : (V c main_v6 : FVec Ideal S1x1 .f32) (ix2 0 0) = b
  x : ∀ n h w k l, (V c main_v2 : FVec Ideal S2x2x2x384x3136 .f32) (ix5 n h w k l) = (X n h w k l : EReal)
  pw : ∀ o k, (V c main_arg1 : FVec Ideal S768x384 .f32) (ix2 o k) = (pw o k : EReal)
  pb : ∀ o, (V c main_v3 : FVec Ideal S768x1 .f32) (ix2 o 0) = (pb o : EReal)
  mw : ∀ o k, (V c main_arg3 : FVec Ideal S384x384 .f32) (ix2 o k) = (mw o k : EReal)
  mb : ∀ o, (V c main_v4 : FVec Ideal S384x1 .f32) (ix2 o 0) = (mb o : EReal)
  q : ∀ l s, (V c main_v24 : FVec Ideal S3136x49 .bf16) (ix2 l s) = ((if cellOf l = s then 1 / 64 else 0 : ℝ) : EReal)

/-- The second projection of a tile. -/
theorem merge_at (w : Vec Ideal S384x384 .f32) (s : Vec Ideal S384x3136 .bf16) (m : Vec Ideal S384x1 .f32)
   (W : Fin 384 → Fin 384 → ℝ) (S : Fin 384 → Fin 3136 → ℝ) (B : Fin 384 → ℝ)
   (hw : ∀ o k, w (ix2 o k) = (W o k : EReal)) (hs : ∀ k l, s (ix2 k l) = (S k l : EReal)) (hm : ∀ o, m (ix2 o 0) = (B o : EReal))
   (o : Fin 384) (l : Fin 3136) :
    k0_pay104 w s m (ix2 o l) = ((∑ k, W o k * S k l + B o : ℝ) : EReal) := by
  pointwise [k0_pay104, hw, hs, hm]
  simp only [zero_add, ← EReal.coe_mul, coe_sum, ← EReal.coe_add]
/-- The sum over a tile. -/
theorem pay1_at (w : Vec Ideal S384x384 .f32) (s : Vec Ideal S384x3136 .bf16) (m : Vec Ideal S384x1 .f32) (M : Fin 384 → Fin 3136 → ℝ)
  (h : ∀ o l, k0_pay104 w s m (ix2 o l) = (M o l : EReal)) : k0_pay1 (k0_pay106 w s m) = ((∑ o, ∑ l, M o l : ℝ) : EReal) := by
  pointwise [k0_pay1, k0_pay106, h]
  simp only [← EReal.coe_mul, coe_sum]
/-- The sum of the squares over a tile. -/
theorem pay2_at (v : FVec Ideal S384x3136 .f32) (M : Fin 384 → Fin 3136 → ℝ)
  (h : ∀ o l, v (ix2 o l) = (M o l : EReal)) : k0_pay2 v = ((∑ o, ∑ l, M o l * M o l : ℝ) : EReal) := by
  pointwise [k0_pay2, h]
  simp only [← EReal.coe_mul, coe_sum]
variable {V}
variable {c : Dev nD} {X : Fin 2 → Fin 2 → Fin 2 → Fin 384 → Fin 3136 → ℝ} {pw : Fin 768 → Fin 384 → ℝ} {pb : Fin 768 → ℝ}
  {mw : Fin 384 → Fin 384 → ℝ} {mb : Fin 384 → ℝ} {a b : EReal}

/-- The block of the input at a grid point is the point's tile. -/
theorem blk0_x (E : Entry0 V c X pw pb mw mb a b) (t : Fin cfg0.N) (k : Fin 384) (l : Fin 3136) :
    (show FVec Ideal S1x1x1x384x3136 .bf16 from iblk0 V c 2 t) (ix5 0 0 0 k l) = (X (img0 t) (row0 t) (col0 t) k l : EReal) := by
  rw [← E.x]; show iblk0 V c 2 t _ = _
  blk_ext [iblk0, idx0 t, img0, row0, col0]
/-- The block of the pooling matrix. -/
theorem blk0_q (E : Entry0 V c X pw pb mw mb a b) (t : Fin cfg0.N) (l : Fin 3136) (s : Fin 49) :
    (show FVec Ideal S3136x49 .bf16 from iblk0 V c 7 t) (ix2 l s) = ((if cellOf l = s then 1 / 64 else 0 : ℝ) : EReal) := by
  rw [← E.q]; show iblk0 V c 7 t _ = _
  blk_ext [iblk0, idx0 t]
/-- The block of the merge's matrix. -/
theorem blk0_mw (E : Entry0 V c X pw pb mw mb a b) (t : Fin cfg0.N) (o k : Fin 384) :
    (show FVec Ideal S384x384 .f32 from iblk0 V c 5 t) (ix2 o k) = (mw o k : EReal) := by
  rw [← E.mw]; show iblk0 V c 5 t _ = _
  blk_ext [iblk0, idx0 t]
/-- The block of the merge's bias. -/
theorem blk0_mb (E : Entry0 V c X pw pb mw mb a b) (t : Fin cfg0.N) (o : Fin 384) :
    (show FVec Ideal S384x1 .f32 from iblk0 V c 6 t) (ix2 o 0) = (mb o : EReal) := by
  rw [← E.mb]; show iblk0 V c 6 t _ = _
  blk_ext [iblk0, idx0 t]

/-- The rows of the projection's matrix that group `g` reads. -/
theorem blk0_pw (E : Entry0 V c X pw pb mw mb a b) (t : Fin cfg0.N) (g : Fin 8) (off : Fin 2 → ℕ) (h0 : off 0 = 96 * g.val) (h1 : off 1 = 0)
    (inb : ∀ a, off a + S96x384.size a ≤ S768x384.size a) (i : Fin 96) (k : Fin 384) :
    (show FVec Ideal S96x384 .f32 from View.ld (iblk0 V c 3 t) (Rect.unit off S96x384.size inb)) (ix2 i k) = (pw (chan g i) k : EReal) := by
  rw [← E.pw]; show iblk0 V c 3 t _ = _
  blk_ext [iblk0, idx0 t, chan, h0, h1]
  · show off 0 + 1 * i.val = _; omega
  · show off 1 + 1 * k.val = _; omega
/-- The entries of the projection's bias that group `g` reads. -/
theorem blk0_pb (E : Entry0 V c X pw pb mw mb a b) (t : Fin cfg0.N) (g : Fin 8) (off : Fin 2 → ℕ) (h0 : off 0 = 96 * g.val) (h1 : off 1 = 0)
    (inb : ∀ a, off a + S96x1.size a ≤ S768x1.size a) (i : Fin 96) :
    (show FVec Ideal S96x1 .f32 from View.ld (iblk0 V c 4 t) (Rect.unit off S96x1.size inb)) (ix2 i 0) = (pb (chan g i) : EReal) := by
  rw [← E.pb]; show iblk0 V c 4 t _ = _
  blk_ext [iblk0, idx0 t, chan, h0, h1]
  show off 0 + 1 * i.val = _; omega
/-- The similarity's factor, as the body reads it. -/
theorem blk0_a (E : Entry0 V c X pw pb mw mb a b) (t : Fin cfg0.N) (j : S1x1.Idx) :
    View.ld (iblk0 V c 0 t) (Rect.unit ![0, 0] ![1, 1] inb_S1x1_S1x1_0_0) j = a := by
  rw [← E.a]; show iblk0 V c 0 t ((Rect.unit (s := S1x1) ![0, 0] ![1, 1] inb_S1x1_S1x1_0_0).idx j) = _
  blk_ext [iblk0, idx0 t]
/-- The similarity's shift, as the body reads it. -/
theorem blk0_b (E : Entry0 V c X pw pb mw mb a b) (t : Fin cfg0.N) (j : S1x1.Idx) :
    View.ld (iblk0 V c 1 t) (Rect.unit ![0, 0] ![1, 1] inb_S1x1_S1x1_0_0) j = b := by
  rw [← E.b]; show iblk0 V c 1 t ((Rect.unit (s := S1x1) ![0, 0] ![1, 1] inb_S1x1_S1x1_0_0).idx j) = _
  blk_ext [iblk0, idx0 t]

/-- The place the scale and the offset are read at. -/
abbrev first11 : S1x1.Idx := Shape.Idx.first (by decide)

/-- One group's part of the clustered tile, at channel `k` of the tile. -/
theorem group_at (E : Entry0 V c X pw pb mw mb a b) (t : Fin cfg0.N) (g : Fin 8) (o : ℕ) (ho : o = 96 * g.val)
    (iw : ∀ a, (![o, 0] : Fin 2 → ℕ) a + S96x384.size a ≤ S768x384.size a) (ip : ∀ a, (![o, 0] : Fin 2 → ℕ) a + S96x1.size a ≤ S768x1.size a)
    (a' b' : Elt Ideal .f32) (ha : a' = a) (hb : b' = b)
    (k : Fin 384) (l : Fin 3136) (x : S48x3136.Idx) (h0 : k.val = 48 * g.val + (x 0).val) (h1 : l.val = (x 1).val) :
    row (iblk0 V c 2 t) (iblk0 V c 7 t) a' b'
      (View.ld (iblk0 V c 3 t) (Rect.unit ![o, 0] ![96, 384] iw)) (View.ld (iblk0 V c 4 t) (Rect.unit ![o, 0] ![96, 1] ip)) x
      = (clustered a b pw pb (X (img0 t) (row0 t) (col0 t)) k l : EReal) := by
  idx_vars x
  obtain rfl : l = x1 := Fin.ext h1
  have hg : grp k = g := by apply Fin.ext; simp only [grp]; have := x0.isLt; change k.val = 48 * g.val + x0.val at h0; omega
  have hc : chanIn k = x0 := by apply Fin.ext; simp only [chanIn]; have := x0.isLt; change k.val = 48 * g.val + x0.val at h0; omega
  refine (row_at _ _ _ _ _ _ _ _ _ (blk0_x E t) (blk0_pw E t g _ ho rfl iw) (blk0_pb E t g _ ho rfl ip) (blk0_q E t) _ _).trans ?_
  rw [clustered, hg, hc, ha, hb]
  rfl

/-- The results a grid point leaves are computed from one clustered tile. -/
theorem point0 (E : Entry0 V c X pw pb mw mb a b) (t : Fin cfg0.N) :
    ∃ s : Vec Ideal S384x3136 .bf16, (∀ k l, s (ix2 k l) = (clustered a b pw pb (X (img0 t) (row0 t) (col0 t)) k l : EReal))
      ∧ (dat0 V c).after 8 t = k0_pay105 (iblk0 V c 5 t) s (iblk0 V c 6 t)
      ∧ (dat0 V c).after 9 t = (fun _ => k0_pay1 (k0_pay106 (iblk0 V c 5 t) s (iblk0 V c 6 t)))
      ∧ (dat0 V c).after 10 t = (fun _ => k0_pay2 (k0_pay104 (iblk0 V c 5 t) s (iblk0 V c 6 t))) := by
  rw [after0_8, after0_9, after0_10]; simp only [outsAt0]; frame_out
  refine ⟨_, ?_, rfl, rfl, rfl⟩
  intro k l
  refine (congrFun (View.readCov_eq_canon' _ _ _) _).trans ?_
  canon_tiles x h
  case' piece0 => refine Eq.trans ?_ (group_at E t 7 672 rfl inb_S768x384_S96x384_672_0 inb_S768x1_S96x1_672_0 _ _ (blk0_a E t first11) (blk0_b E t first11) k l x (by simpa using h0) (by simpa using h1))
  case' piece1 => refine Eq.trans ?_ (group_at E t 6 576 rfl inb_S768x384_S96x384_576_0 inb_S768x1_S96x1_576_0 _ _ (blk0_a E t first11) (blk0_b E t first11) k l x (by simpa using h0) (by simpa using h1))
  case' piece2 => refine Eq.trans ?_ (group_at E t 5 480 rfl inb_S768x384_S96x384_480_0 inb_S768x1_S96x1_480_0 _ _ (blk0_a E t first11) (blk0_b E t first11) k l x (by simpa using h0) (by simpa using h1))
  case' piece3 => refine Eq.trans ?_ (group_at E t 4 384 rfl inb_S768x384_S96x384_384_0 inb_S768x1_S96x1_384_0 _ _ (blk0_a E t first11) (blk0_b E t first11) k l x (by simpa using h0) (by simpa using h1))
  case' piece4 => refine Eq.trans ?_ (group_at E t 3 288 rfl inb_S768x384_S96x384_288_0 inb_S768x1_S96x1_288_0 _ _ (blk0_a E t first11) (blk0_b E t first11) k l x (by simpa using h0) (by simpa using h1))
  case' piece5 => refine Eq.trans ?_ (group_at E t 2 192 rfl inb_S768x384_S96x384_192_0 inb_S768x1_S96x1_192_0 _ _ (blk0_a E t first11) (blk0_b E t first11) k l x (by simpa using h0) (by simpa using h1))
  case' piece6 => refine Eq.trans ?_ (group_at E t 1 96 rfl inb_S768x384_S96x384_96_0 inb_S768x1_S96x1_96_0 _ _ (blk0_a E t first11) (blk0_b E t first11) k l x (by simpa using h0) (by simpa using h1))
  case' piece7 => refine Eq.trans ?_ (group_at E t 0 0 rfl inb_S768x384_S96x384_0_0 inb_S768x1_S96x1_0_0 _ _ (blk0_a E t first11) (blk0_b E t first11) k l x (by simpa using h0) (by simpa using h1))
  all_goals
    simp only [row, k0_pay6, k0_pay7, k0_pay8, k0_pay9, k0_pay10, k0_pay11, k0_pay12, k0_pay13, k0_pay14, k0_pay15, k0_pay16, k0_pay17, k0_pay18,
      k0_pay19, k0_pay20, k0_pay21, k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41, k0_pay42, k0_pay43, k0_pay44,
      k0_pay45, k0_pay46, k0_pay47, k0_pay48, k0_pay49, k0_pay50, k0_pay51, k0_pay52, k0_pay53, k0_pay54, k0_pay55, k0_pay56, k0_pay57,
      k0_pay58, k0_pay59, k0_pay60, k0_pay61, k0_pay62, k0_pay63, k0_pay64, k0_pay65, k0_pay66, k0_pay67, k0_pay68, k0_pay69, k0_pay70,
      k0_pay71, k0_pay72, k0_pay73, k0_pay74, k0_pay75, k0_pay76, k0_pay77, k0_pay78, k0_pay79, k0_pay80, k0_pay81, k0_pay82, k0_pay83,
      k0_pay84, k0_pay85, k0_pay86, k0_pay87, k0_pay88, k0_pay89, k0_pay90, k0_pay91, k0_pay92, k0_pay93, k0_pay94, k0_pay95, k0_pay96,
      k0_pay97, k0_pay98, k0_pay99, k0_pay100, k0_pay101, k0_pay102, k0_pay103]
    rfl

/-- The merge of the clustered tile, from the scratch the groups filled. -/
theorem out_at (E : Entry0 V c X pw pb mw mb a b) (t : Fin cfg0.N) (s : Vec Ideal S384x3136 .bf16)
    (hs : ∀ k l, s (ix2 k l) = (clustered a b pw pb (X (img0 t) (row0 t) (col0 t)) k l : EReal)) (o : Fin 384) (l : Fin 3136) :
    k0_pay104 (iblk0 V c 5 t) s (iblk0 V c 6 t) (ix2 o l) = (merged a b pw pb mw mb (X (img0 t) (row0 t) (col0 t)) o l : EReal) :=
  merge_at _ _ _ _ _ _ (blk0_mw E t) hs (blk0_mb E t) o l

/-- The merged tiles' array after the launch, from what each grid point leaves. -/
theorem arr0_8_of (G : FVec Ideal S2x2x2x384x3136 .bf16)
    (h : ∀ (t : Fin cfg0.N) o l, (show FVec Ideal S1x1x1x384x3136 .bf16 from (dat0 V c).after 8 t) (ix5 0 0 0 o l)
      = G (ix5 (img0 t) (row0 t) (col0 t) o l)) : (dat0 V c).arrAt 8 cfg0.N = G := by
  refine (dat0 V c).arrAt_eq_of_covers 8 _ (by decide +kernel) fun t _ y => ?_
  change S1x1x1x384x3136.Idx at y
  idx_vars y
  obtain rfl : y0 = 0 := Subsingleton.elim _ _
  obtain rfl : y1 = 0 := Subsingleton.elim _ _
  obtain rfl : y2 = 0 := Subsingleton.elim _ _
  refine (h t y3 y4).trans ?_
  clear h
  blk_ext [idx0 t, img0, row0, col0]
/-- The array of the tiles' sums after the launch, from what each grid point leaves. -/
theorem arr0_9_of (G : FVec Ideal S8x1x1 .f32)
    (h : ∀ (t : Fin cfg0.N) y, (show FVec Ideal S1x1x1 .f32 from (dat0 V c).after 9 t) y = G (ix3 (t : Fin 8) 0 0)) :
    (dat0 V c).arrAt 9 cfg0.N = G := by
  refine (dat0 V c).arrAt_eq_of_covers 9 _ (by decide +kernel) fun t _ y => ?_
  change S1x1x1.Idx at y
  refine (h t y).trans ?_
  clear h
  blk_ext [idx0 t]
/-- The array of the tiles' sums of squares after the launch, from what each grid point leaves. -/
theorem arr0_10_of (G : FVec Ideal S8x1x1 .f32)
    (h : ∀ (t : Fin cfg0.N) y, (show FVec Ideal S1x1x1 .f32 from (dat0 V c).after 10 t) y = G (ix3 (t : Fin 8) 0 0)) :
    (dat0 V c).arrAt 10 cfg0.N = G := by
  refine (dat0 V c).arrAt_eq_of_covers 10 _ (by decide +kernel) fun t _ y => ?_
  change S1x1x1.Idx at y
  refine (h t y).trans ?_
  clear h
  blk_ext [idx0 t]

/-- The merged image after the first kernel. -/
theorem arr0_8 (E : Entry0 V c X pw pb mw mb a b) (n h w : Fin 2) (o : Fin 384) (l : Fin 3136) :
    (show FVec Ideal S2x2x2x384x3136 .bf16 from (dat0 V c).arrAt 8 cfg0.N) (ix5 n h w o l)
      = (merged a b pw pb mw mb (X n h w) o l : EReal) := by
  refine congrFun (arr0_8_of (fun i => (merged a b pw pb mw mb (X (i 0) (i 1) (i 2)) (i 3) (i 4) : EReal)) fun t o l => ?_) _
  obtain ⟨s, hs, h8, h9, h10⟩ := point0 E t
  show (dat0 V c).after 8 t _ = _
  rw [h8]
  show _ = (merged a b pw pb mw mb (X (img0 t) (row0 t) (col0 t)) o l : EReal)
  pointwise [k0_pay105, out_at E t s hs]
/-- The tiles' sums after the first kernel. -/
theorem arr0_9 (E : Entry0 V c X pw pb mw mb a b) (i : Fin 8) :
    (show FVec Ideal S8x1x1 .f32 from (dat0 V c).arrAt 9 cfg0.N) (ix3 i 0 0)
      = ((∑ o, ∑ l, merged a b pw pb mw mb (X (img0 i) (row0 i) (col0 i)) o l : ℝ) : EReal) := by
  refine congrFun (arr0_9_of (fun i => ((∑ o, ∑ l, merged a b pw pb mw mb (X (img0 (i 0)) (row0 (i 0)) (col0 (i 0))) o l : ℝ) : EReal))
    fun t y => ?_) _
  obtain ⟨s, hs, h8, h9, h10⟩ := point0 E t
  show (dat0 V c).after 9 t _ = _
  rw [h9]
  exact pay1_at _ _ _ _ (out_at E t s hs)
/-- The tiles' sums of squares after the first kernel. -/
theorem arr0_10 (E : Entry0 V c X pw pb mw mb a b) (i : Fin 8) :
    (show FVec Ideal S8x1x1 .f32 from (dat0 V c).arrAt 10 cfg0.N) (ix3 i 0 0)
      = ((∑ o, ∑ l, merged a b pw pb mw mb (X (img0 i) (row0 i) (col0 i)) o l * merged a b pw pb mw mb (X (img0 i) (row0 i) (col0 i)) o l : ℝ) : EReal) := by
  refine congrFun (arr0_10_of (fun i => ((∑ o, ∑ l, merged a b pw pb mw mb (X (img0 (i 0)) (row0 (i 0)) (col0 (i 0))) o l
    * merged a b pw pb mw mb (X (img0 (i 0)) (row0 (i 0)) (col0 (i 0))) o l : ℝ) : EReal)) fun t y => ?_) _
  obtain ⟨s, hs, h8, h9, h10⟩ := point0 E t
  show (dat0 V c).after 10 t _ = _
  rw [h10]
  exact pay2_at _ _ (out_at E t s hs)

end Cert.KernelIdeal.Value

end
-- ==== Proof.Region1.lean ====
/- The second kernel, which normalises and applies the two-layer network: its result arrays as real numbers, from what its
   operands hold when it is entered. -/
module

public import proofs.«01_k».proof.Proof.Gen.KernelIdeal.Frame
public import proofs.«01_k».proof.Proof.KernelNorm
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Block

variable {V : (c : Dev nD) → (b : Ref sig .tc) → Buf (Elt Ideal) ((c : Thread nD τ).loc b)}

/-- The block each operand and result holds at a grid point of the second kernel. -/
theorem idx1 : ∀ t : Fin cfg1.N, win1_0.index t = ![0, 0, 0] ∧ win1_1.index t = ![0, 0, 0]
    ∧ win1_2.index t = ![t.val / 4, t.val / 2 % 2, t.val % 2, 0, 0] ∧ win1_3.index t = ![t.val / 4, t.val / 2 % 2, t.val % 2, 0, 0]
    ∧ win1_4.index t = ![0, 0] ∧ win1_5.index t = ![0, 0] ∧ win1_6.index t = ![0, 0] ∧ win1_7.index t = ![0, 0]
    ∧ win1_8.index t = ![0, 0] ∧ win1_9.index t = ![0, 0]
    ∧ win1_10.index t = ![t.val / 4, t.val / 2 % 2, t.val % 2, 0, 0]
    ∧ win1_11.index t = ![t.val, 0, 0] ∧ win1_12.index t = ![t.val, 0, 0] :=
  (by decide +kernel : ∀ t : Fin grid1.N, _)

/-- Where the body finds the sums of the four tiles of its point's image. -/
theorem off1 : ∀ t : Fin cfg1.N, k1_off1 (grid1.coords t) 0#32 0#32 = ![4 * (t.val / 4), 0, 0] ∧ k1_off1 (grid1.coords t) 0#32 1#32 = ![4 * (t.val / 4) + 1, 0, 0]
    ∧ k1_off1 (grid1.coords t) 2#32 0#32 = ![4 * (t.val / 4) + 2, 0, 0] ∧ k1_off1 (grid1.coords t) 2#32 1#32 = ![4 * (t.val / 4) + 3, 0, 0] :=
  (by decide +kernel : ∀ t : Fin grid1.N, _)

variable {c : Dev nD}

variable {M : Fin 2 → Fin 2 → Fin 2 → Fin 384 → Fin 3136 → ℝ}
  {X : Fin 2 → Fin 2 → Fin 2 → Fin 384 → Fin 3136 → ℝ} {gw gb : Fin 384 → ℝ} {w0 : Fin 768 → Fin 768 → ℝ} {b0 : Fin 768 → ℝ}
  {w1 : Fin 384 → Fin 768 → ℝ} {b1 : Fin 384 → ℝ}

/-- What the second kernel's operands hold when it is entered. -/
structure Entry1 (V : (c : Dev nD) → (b : Ref sig .tc) → Buf (Elt Ideal) ((c : Thread nD τ).loc b)) (c : Dev nD)
    (M X : Fin 2 → Fin 2 → Fin 2 → Fin 384 → Fin 3136 → ℝ) (gw gb : Fin 384 → ℝ)
    (w0 : Fin 768 → Fin 768 → ℝ) (b0 : Fin 768 → ℝ) (w1 : Fin 384 → Fin 768 → ℝ) (b1 : Fin 384 → ℝ) : Prop where
  s : ∀ n h w, (V c main_v25_1 : FVec Ideal S8x1x1 .f32) (ix3 (pointOf n h w) 0 0) = (tile (M n) h w : EReal)
  q : ∀ n h w, (V c main_v25_2 : FVec Ideal S8x1x1 .f32) (ix3 (pointOf n h w) 0 0) = (tile (sq (M n)) h w : EReal)
  x : ∀ n h w k l, (V c main_v2 : FVec Ideal S2x2x2x384x3136 .f32) (ix5 n h w k l) = (X n h w k l : EReal)
  m : ∀ n h w k l, (V c main_v25_0 : FVec Ideal S2x2x2x384x3136 .bf16) (ix5 n h w k l) = (M n h w k l : EReal)
  gw : ∀ o, (V c main_v26 : FVec Ideal S384x1 .f32) (ix2 o 0) = (gw o : EReal)
  gb : ∀ o, (V c main_v27 : FVec Ideal S384x1 .f32) (ix2 o 0) = (gb o : EReal)
  w0 : ∀ o k, (V c main_arg9 : FVec Ideal S768x768 .f32) (ix2 o k) = (w0 o k : EReal)
  b0 : ∀ o, (V c main_v28 : FVec Ideal S768x1 .f32) (ix2 o 0) = (b0 o : EReal)
  w1 : ∀ o k, (V c main_arg11 : FVec Ideal S384x768 .f32) (ix2 o k) = (w1 o k : EReal)
  b1 : ∀ o, (V c main_v29 : FVec Ideal S384x1 .f32) (ix2 o 0) = (b1 o : EReal)

/-- The sum of a tile of the grid point's image, as the body reads it. -/
theorem word1_s (E : Entry1 V c M X gw gb w0 b0 w1 b1) (t : Fin cfg1.N) (h w : Fin 2) (off : Fin 3 → ℕ)
    (ho : off = ![4 * (t.val / 4) + (2 * h.val + w.val), 0, 0]) (inb : ∀ a, off a + S1x1x1.size a ≤ S8x1x1.size a) (j : S1x1x1.Idx) :
    View.ld (iblk1 V c 0 t) (Rect.unit off ![1, 1, 1] inb) j = (tile (M (img0 t)) h w : EReal) := by
  subst ho
  rw [← E.s]; show iblk1 V c 0 t ((Rect.unit (s := S8x1x1) _ ![1, 1, 1] inb).idx j) = _
  blk_ext [iblk1, idx1 t, pointOf, img0]
  show 4 * (t.val / 4) + (2 * h.val + w.val) + 1 * (j 0).val = _; omega
/-- The sum of squares of a tile of the grid point's image, as the body reads it. -/
theorem word1_q (E : Entry1 V c M X gw gb w0 b0 w1 b1) (t : Fin cfg1.N) (h w : Fin 2) (off : Fin 3 → ℕ)
    (ho : off = ![4 * (t.val / 4) + (2 * h.val + w.val), 0, 0]) (inb : ∀ a, off a + S1x1x1.size a ≤ S8x1x1.size a) (j : S1x1x1.Idx) :
    View.ld (iblk1 V c 1 t) (Rect.unit off ![1, 1, 1] inb) j = (tile (sq (M (img0 t))) h w : EReal) := by
  subst ho
  rw [← E.q]; show iblk1 V c 1 t ((Rect.unit (s := S8x1x1) _ ![1, 1, 1] inb).idx j) = _
  blk_ext [iblk1, idx1 t, pointOf, img0]
  show 4 * (t.val / 4) + (2 * h.val + w.val) + 1 * (j 0).val = _; omega
/-- The block of the input at a grid point is the point's tile. -/
theorem blk1_x (E : Entry1 V c M X gw gb w0 b0 w1 b1) (t : Fin cfg1.N) (k : Fin 384) (l : Fin 3136) :
    (show FVec Ideal S1x1x1x384x3136 .f32 from iblk1 V c 2 t) (ix5 0 0 0 k l) = (X (img0 t) (row0 t) (col0 t) k l : EReal) := by
  rw [← E.x]; show iblk1 V c 2 t _ = _
  blk_ext [iblk1, idx1 t, img0, row0, col0]
/-- The block of the merged tiles at a grid point is the point's tile. -/
theorem blk1_m (E : Entry1 V c M X gw gb w0 b0 w1 b1) (t : Fin cfg1.N) (k : Fin 384) (l : Fin 3136) :
    (show FVec Ideal S1x1x1x384x3136 .bf16 from iblk1 V c 3 t) (ix5 0 0 0 k l) = (M (img0 t) (row0 t) (col0 t) k l : EReal) := by
  rw [← E.m]; show iblk1 V c 3 t _ = _
  blk_ext [iblk1, idx1 t, img0, row0, col0]
/-- The block of the norm's weight. -/
theorem blk1_gw (E : Entry1 V c M X gw gb w0 b0 w1 b1) (t : Fin cfg1.N) (o : Fin 384) :
    (show FVec Ideal S384x1 .f32 from iblk1 V c 4 t) (ix2 o 0) = (gw o : EReal) := by
  rw [← E.gw]; show iblk1 V c 4 t _ = _
  blk_ext [iblk1, idx1 t]
/-- The block of the norm's bias. -/
theorem blk1_gb (E : Entry1 V c M X gw gb w0 b0 w1 b1) (t : Fin cfg1.N) (o : Fin 384) :
    (show FVec Ideal S384x1 .f32 from iblk1 V c 5 t) (ix2 o 0) = (gb o : EReal) := by
  rw [← E.gb]; show iblk1 V c 5 t _ = _
  blk_ext [iblk1, idx1 t]
/-- The block of the first layer's matrix. -/
theorem blk1_w0 (E : Entry1 V c M X gw gb w0 b0 w1 b1) (t : Fin cfg1.N) (o k : Fin 768) :
    (show FVec Ideal S768x768 .f32 from iblk1 V c 6 t) (ix2 o k) = (w0 o k : EReal) := by
  rw [← E.w0]; show iblk1 V c 6 t _ = _
  blk_ext [iblk1, idx1 t]
/-- The block of the first layer's bias. -/
theorem blk1_b0 (E : Entry1 V c M X gw gb w0 b0 w1 b1) (t : Fin cfg1.N) (o : Fin 768) :
    (show FVec Ideal S768x1 .f32 from iblk1 V c 7 t) (ix2 o 0) = (b0 o : EReal) := by
  rw [← E.b0]; show iblk1 V c 7 t _ = _
  blk_ext [iblk1, idx1 t]
/-- The block of the second layer's matrix. -/
theorem blk1_w1 (E : Entry1 V c M X gw gb w0 b0 w1 b1) (t : Fin cfg1.N) (o : Fin 384) (k : Fin 768) :
    (show FVec Ideal S384x768 .f32 from iblk1 V c 8 t) (ix2 o k) = (w1 o k : EReal) := by
  rw [← E.w1]; show iblk1 V c 8 t _ = _
  blk_ext [iblk1, idx1 t]
/-- The block of the second layer's bias. -/
theorem blk1_b1 (E : Entry1 V c M X gw gb w0 b0 w1 b1) (t : Fin cfg1.N) (o : Fin 384) :
    (show FVec Ideal S384x1 .f32 from iblk1 V c 9 t) (ix2 o 0) = (b1 o : EReal) := by
  rw [← E.b1]; show iblk1 V c 9 t _ = _
  blk_ext [iblk1, idx1 t]

/-- The network's result over the whole input: image `n`, tile `(h, w)`. -/
def mixed (M X : Fin 2 → Fin 2 → Fin 2 → Fin 384 → Fin 3136 → ℝ) (gw gb : Fin 384 → ℝ)
    (w0 : Fin 768 → Fin 768 → ℝ) (b0 : Fin 768 → ℝ) (w1 : Fin 384 → Fin 768 → ℝ) (b1 : Fin 384 → ℝ)
    (n h w : Fin 2) (o : Fin 384) (l : Fin 3136) : ℝ :=
  mlp w0 b0 w1 b1 (X n h w) (fun k l => normed (M n) h w k l * gw k + gb k) o l

/-- The results a grid point leaves are computed from one tile of the network's result. -/
theorem point1 (E : Entry1 V c M X gw gb w0 b0 w1 b1) (t : Fin cfg1.N) :
    ∃ s : FVec Ideal S384x3136 .f32,
      (∀ o l, s (ix2 o l) = (mixed M X gw gb w0 b0 w1 b1 (img0 t) (row0 t) (col0 t) o l : EReal))
      ∧ (dat1 V c).after 10 t = k1_pay1 (F := Ideal) (truncf .bf16 s bitsLt_bf16_f32)
      ∧ (dat1 V c).after 11 t = (fun _ => k1_pay2 (F := Ideal) s)
      ∧ (dat1 V c).after 12 t = (fun _ => k1_pay3 (F := Ideal) s) := by
  rw [after1_10, after1_11, after1_12]; simp only [outsAt1]; frame_out
  refine ⟨_, ?_, rfl, rfl, rfl⟩
  have hoff := off1 t
  refine mlp_at _ _ _ _ _ _ _ (fun k l => normed (M (img0 t)) (row0 t) (col0 t) k l * gw k) _ _ _ _ _ _ ?_ (blk1_gb E t) (blk1_x E t) (blk1_w0 E t) (blk1_b0 E t) (blk1_w1 E t) (blk1_b1 E t)
  intro o l
  refine (norm1_at (M (img0 t)) (row0 t) (col0 t) _ _ _ _ _ _ _ _ _ _
    (word1_s E t 0 0 _ hoff.1 _ _) (word1_s E t 0 1 _ hoff.2.1 _ _) (word1_s E t 1 0 _ hoff.2.2.1 _ _) (word1_s E t 1 1 _ hoff.2.2.2 _ _)
    (word1_q E t 0 0 _ hoff.1 _ _) (word1_q E t 0 1 _ hoff.2.1 _ _) (word1_q E t 1 0 _ hoff.2.2.1 _ _) (word1_q E t 1 1 _ hoff.2.2.2 _ _)
    (blk1_m E t) o l).trans ?_
  rw [EReal.coe_mul]
  exact congrArg _ (blk1_gw E t o)

/-- The network's array after the launch, from what each grid point leaves. -/
theorem arr1_10_of (G : FVec Ideal S2x2x2x384x3136 .bf16)
    (h : ∀ (t : Fin cfg1.N) o l, (show FVec Ideal S1x1x1x384x3136 .bf16 from (dat1 V c).after 10 t) (ix5 0 0 0 o l)
      = G (ix5 (img0 t) (row0 t) (col0 t) o l)) : (dat1 V c).arrAt 10 cfg1.N = G := by
  refine (dat1 V c).arrAt_eq_of_covers 10 _ (by decide +kernel) fun t _ y => ?_
  change S1x1x1x384x3136.Idx at y
  idx_vars y
  obtain rfl : y0 = 0 := Subsingleton.elim _ _
  obtain rfl : y1 = 0 := Subsingleton.elim _ _
  obtain rfl : y2 = 0 := Subsingleton.elim _ _
  refine (h t y3 y4).trans ?_
  clear h
  blk_ext [idx1 t, img0, row0, col0]
/-- The array of the tiles' sums after the launch, from what each grid point leaves. -/
theorem arr1_11_of (G : FVec Ideal S8x1x1 .f32)
    (h : ∀ (t : Fin cfg1.N) y, (show FVec Ideal S1x1x1 .f32 from (dat1 V c).after 11 t) y = G (ix3 (t : Fin 8) 0 0)) :
    (dat1 V c).arrAt 11 cfg1.N = G := by
  refine (dat1 V c).arrAt_eq_of_covers 11 _ (by decide +kernel) fun t _ y => ?_
  change S1x1x1.Idx at y
  refine (h t y).trans ?_
  clear h
  blk_ext [idx1 t]
/-- The array of the tiles' sums of squares after the launch, from what each grid point leaves. -/
theorem arr1_12_of (G : FVec Ideal S8x1x1 .f32)
    (h : ∀ (t : Fin cfg1.N) y, (show FVec Ideal S1x1x1 .f32 from (dat1 V c).after 12 t) y = G (ix3 (t : Fin 8) 0 0)) :
    (dat1 V c).arrAt 12 cfg1.N = G := by
  refine (dat1 V c).arrAt_eq_of_covers 12 _ (by decide +kernel) fun t _ y => ?_
  change S1x1x1.Idx at y
  refine (h t y).trans ?_
  clear h
  blk_ext [idx1 t]

/-- The network's result after the second kernel. -/
theorem arr1_10 (E : Entry1 V c M X gw gb w0 b0 w1 b1) (n h w : Fin 2) (o : Fin 384) (l : Fin 3136) :
    (show FVec Ideal S2x2x2x384x3136 .bf16 from (dat1 V c).arrAt 10 cfg1.N) (ix5 n h w o l)
      = (mixed M X gw gb w0 b0 w1 b1 n h w o l : EReal) := by
  refine congrFun (arr1_10_of (fun i => (mixed M X gw gb w0 b0 w1 b1 (i 0) (i 1) (i 2) (i 3) (i 4) : EReal)) fun t o l => ?_) _
  obtain ⟨s, hs, h10, h11, h12⟩ := point1 E t
  show (dat1 V c).after 10 t _ = _
  rw [h10]
  show _ = (mixed M X gw gb w0 b0 w1 b1 (img0 t) (row0 t) (col0 t) o l : EReal)
  pointwise [k1_pay1, hs]
/-- Its tiles' sums. -/
theorem arr1_11 (E : Entry1 V c M X gw gb w0 b0 w1 b1) (n h w : Fin 2) :
    (show FVec Ideal S8x1x1 .f32 from (dat1 V c).arrAt 11 cfg1.N) (ix3 (pointOf n h w) 0 0)
      = (tile (mixed M X gw gb w0 b0 w1 b1 n) h w : EReal) := by
  refine (congrFun (arr1_11_of (fun i => (tile (mixed M X gw gb w0 b0 w1 b1 (img0 (i 0))) (row0 (i 0)) (col0 (i 0)) : EReal))
    fun t y => ?_) _).trans ?_
  · obtain ⟨s, hs, h10, h11, h12⟩ := point1 E t
    show (dat1 V c).after 11 t _ = _
    rw [h11]
    exact sum1_at _ (mixed M X gw gb w0 b0 w1 b1 (img0 t)) _ _ hs
  · show (tile (mixed M X gw gb w0 b0 w1 b1 (img0 (pointOf n h w))) (row0 (pointOf n h w)) (col0 (pointOf n h w)) : EReal) = _
    rw [img0_pointOf, row0_pointOf, col0_pointOf]
/-- Its tiles' sums of squares. -/
theorem arr1_12 (E : Entry1 V c M X gw gb w0 b0 w1 b1) (n h w : Fin 2) :
    (show FVec Ideal S8x1x1 .f32 from (dat1 V c).arrAt 12 cfg1.N) (ix3 (pointOf n h w) 0 0)
      = (tile (sq (mixed M X gw gb w0 b0 w1 b1 n)) h w : EReal) := by
  refine (congrFun (arr1_12_of (fun i => (tile (sq (mixed M X gw gb w0 b0 w1 b1 (img0 (i 0)))) (row0 (i 0)) (col0 (i 0)) : EReal))
    fun t y => ?_) _).trans ?_
  · obtain ⟨s, hs, h10, h11, h12⟩ := point1 E t
    show (dat1 V c).after 12 t _ = _
    rw [h12]
    exact sumsq1_at _ (mixed M X gw gb w0 b0 w1 b1 (img0 t)) _ _ hs
  · show (tile (sq (mixed M X gw gb w0 b0 w1 b1 (img0 (pointOf n h w)))) (row0 (pointOf n h w)) (col0 (pointOf n h w)) : EReal) = _
    rw [img0_pointOf, row0_pointOf, col0_pointOf]

end Cert.KernelIdeal.Value

end
-- ==== Proof.Region2.lean ====
/- The third kernel, which normalises the network's result and adds the input: its result array, from what its operands hold when
   it is entered. -/
module

public import proofs.«01_k».proof.Proof.Gen.KernelIdeal.Frame
public import proofs.«01_k».proof.Proof.KernelNorm
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Block

variable {V : (c : Dev nD) → (b : Ref sig .tc) → Buf (Elt Ideal) ((c : Thread nD τ).loc b)}

/-- The block each operand and result holds at a grid point of the third kernel. -/
theorem idx2 : ∀ t : Fin cfg2.N, win2_0.index t = ![0, 0, 0] ∧ win2_1.index t = ![0, 0, 0]
    ∧ win2_2.index t = ![0, 0] ∧ win2_3.index t = ![0, 0]
    ∧ win2_4.index t = ![t.val / 4, t.val / 2 % 2, t.val % 2, 0, 0] ∧ win2_5.index t = ![t.val / 4, t.val / 2 % 2, t.val % 2, 0, 0]
    ∧ win2_6.index t = ![t.val / 4, t.val / 2 % 2, t.val % 2, 0, 0] :=
  (by decide +kernel : ∀ t : Fin grid2.N, _)

/-- Where the body reads the four tiles' sums of the grid point's image. -/
theorem off2 : ∀ t : Fin cfg2.N, k2_off1 (grid2.coords t) 0#32 0#32 = ![4 * (t.val / 4), 0, 0] ∧ k2_off1 (grid2.coords t) 0#32 1#32 = ![4 * (t.val / 4) + 1, 0, 0]
    ∧ k2_off1 (grid2.coords t) 2#32 0#32 = ![4 * (t.val / 4) + 2, 0, 0] ∧ k2_off1 (grid2.coords t) 2#32 1#32 = ![4 * (t.val / 4) + 3, 0, 0] :=
  (by decide +kernel : ∀ t : Fin grid2.N, _)

variable {c : Dev nD}

variable {T X : Fin 2 → Fin 2 → Fin 2 → Fin 384 → Fin 3136 → ℝ} {g b : Fin 384 → EReal}

/-- What the third kernel's operands hold when it is entered. -/
structure Entry2 (V : (c : Dev nD) → (b : Ref sig .tc) → Buf (Elt Ideal) ((c : Thread nD τ).loc b)) (c : Dev nD)
    (T X : Fin 2 → Fin 2 → Fin 2 → Fin 384 → Fin 3136 → ℝ) (g b : Fin 384 → EReal) : Prop where
  s : ∀ n h w, (V c main_v30_1 : FVec Ideal S8x1x1 .f32) (ix3 (pointOf n h w) 0 0) = (tile (T n) h w : EReal)
  q : ∀ n h w, (V c main_v30_2 : FVec Ideal S8x1x1 .f32) (ix3 (pointOf n h w) 0 0) = (tile (sq (T n)) h w : EReal)
  g : ∀ o, (V c main_v31 : FVec Ideal S384x1 .f32) (ix2 o 0) = g o
  b : ∀ o, (V c main_v32 : FVec Ideal S384x1 .f32) (ix2 o 0) = b o
  t : ∀ n h w k l, (V c main_v30_0 : FVec Ideal S2x2x2x384x3136 .bf16) (ix5 n h w k l) = (T n h w k l : EReal)
  x : ∀ n h w k l, (V c main_v2 : FVec Ideal S2x2x2x384x3136 .f32) (ix5 n h w k l) = (X n h w k l : EReal)

/-- The sum of a tile of the grid point's image, as the body reads it. -/
theorem word2_s (E : Entry2 V c T X g b) (t : Fin cfg2.N) (h w : Fin 2) (off : Fin 3 → ℕ)
    (ho : off = ![4 * (t.val / 4) + (2 * h.val + w.val), 0, 0]) (inb : ∀ a, off a + S1x1x1.size a ≤ S8x1x1.size a) (j : S1x1x1.Idx) :
    View.ld (iblk2 V c 0 t) (Rect.unit off ![1, 1, 1] inb) j = (tile (T (img0 t)) h w : EReal) := by
  subst ho
  rw [← E.s]; show iblk2 V c 0 t ((Rect.unit (s := S8x1x1) _ ![1, 1, 1] inb).idx j) = _
  blk_ext [iblk2, idx2 t, pointOf, img0]
  show 4 * (t.val / 4) + (2 * h.val + w.val) + 1 * (j 0).val = _; omega
/-- The sum of squares of a tile of the grid point's image, as the body reads it. -/
theorem word2_q (E : Entry2 V c T X g b) (t : Fin cfg2.N) (h w : Fin 2) (off : Fin 3 → ℕ)
    (ho : off = ![4 * (t.val / 4) + (2 * h.val + w.val), 0, 0]) (inb : ∀ a, off a + S1x1x1.size a ≤ S8x1x1.size a) (j : S1x1x1.Idx) :
    View.ld (iblk2 V c 1 t) (Rect.unit off ![1, 1, 1] inb) j = (tile (sq (T (img0 t))) h w : EReal) := by
  subst ho
  rw [← E.q]; show iblk2 V c 1 t ((Rect.unit (s := S8x1x1) _ ![1, 1, 1] inb).idx j) = _
  blk_ext [iblk2, idx2 t, pointOf, img0]
  show 4 * (t.val / 4) + (2 * h.val + w.val) + 1 * (j 0).val = _; omega
/-- The block of the last norm's weight. -/
theorem blk2_g (E : Entry2 V c T X g b) (t : Fin cfg2.N) (o : Fin 384) :
    (show FVec Ideal S384x1 .f32 from iblk2 V c 2 t) (ix2 o 0) = g o := by
  rw [← E.g]; show iblk2 V c 2 t _ = _
  blk_ext [iblk2, idx2 t]
/-- The block of the last norm's bias. -/
theorem blk2_b (E : Entry2 V c T X g b) (t : Fin cfg2.N) (o : Fin 384) :
    (show FVec Ideal S384x1 .f32 from iblk2 V c 3 t) (ix2 o 0) = b o := by
  rw [← E.b]; show iblk2 V c 3 t _ = _
  blk_ext [iblk2, idx2 t]
/-- The block of the network's result at a grid point is the point's tile. -/
theorem blk2_t (E : Entry2 V c T X g b) (t : Fin cfg2.N) (k : Fin 384) (l : Fin 3136) :
    (show FVec Ideal S1x1x1x384x3136 .bf16 from iblk2 V c 4 t) (ix5 0 0 0 k l) = (T (img0 t) (row0 t) (col0 t) k l : EReal) := by
  rw [← E.t]; show iblk2 V c 4 t _ = _
  blk_ext [iblk2, idx2 t, img0, row0, col0]
/-- The block of the input at a grid point is the point's tile. -/
theorem blk2_x (E : Entry2 V c T X g b) (t : Fin cfg2.N) (k : Fin 384) (l : Fin 3136) :
    (show FVec Ideal S1x1x1x384x3136 .f32 from iblk2 V c 5 t) (ix5 0 0 0 k l) = (X (img0 t) (row0 t) (col0 t) k l : EReal) := by
  rw [← E.x]; show iblk2 V c 5 t _ = _
  blk_ext [iblk2, idx2 t, img0, row0, col0]

/-- The last step: the normalised network's result, scaled and shifted, plus the input. -/
def finished (T X : Fin 2 → Fin 2 → Fin 2 → Fin 384 → Fin 3136 → ℝ) (g b : Fin 384 → EReal) (n h w : Fin 2) (o : Fin 384) (l : Fin 3136) :
    EReal :=
  (normed (T n) h w o l : EReal) * g o + b o + (X n h w o l : EReal)

/-- The stored value: the scaled value, the bias and the input added. -/
theorem payFinal_at (v : FVec Ideal S384x3136 .f32) (g : Vec Ideal S384x1 .f32) (x : Vec Ideal S1x1x1x384x3136 .f32) (o : Fin 384) (l : Fin 3136) :
    k2_pay1 v g x (ix5 0 0 0 o l) = v (ix2 o l) + g (ix2 o 0) + x (ix5 0 0 0 o l) := by
  pointwise [k2_pay1]

/-- A grid point of the third kernel leaves the finished values of its tile. -/
theorem point2 (E : Entry2 V c T X g b) (t : Fin cfg2.N) (o : Fin 384) (l : Fin 3136) :
    (show FVec Ideal S1x1x1x384x3136 .f32 from (dat2 V c).after 6 t) (ix5 0 0 0 o l) = finished T X g b (img0 t) (row0 t) (col0 t) o l := by
  rw [after2_6]; simp only [outsAt2]; frame_out
  have hoff := off2 t
  refine (payFinal_at _ _ _ o l).trans ?_
  refine congrArg₂ (· + ·) (congrArg₂ (· + ·) ?_ (blk2_b E t o)) (blk2_x E t o l)
  refine (norm2_at (T (img0 t)) (row0 t) (col0 t) _ _ _ _ _ _ _ _ _ _
    (word2_s E t 0 0 _ hoff.1 _ _) (word2_s E t 0 1 _ hoff.2.1 _ _) (word2_s E t 1 0 _ hoff.2.2.1 _ _) (word2_s E t 1 1 _ hoff.2.2.2 _ _)
    (word2_q E t 0 0 _ hoff.1 _ _) (word2_q E t 0 1 _ hoff.2.1 _ _) (word2_q E t 1 0 _ hoff.2.2.1 _ _) (word2_q E t 1 1 _ hoff.2.2.2 _ _)
    (blk2_t E t) o l).trans ?_
  exact congrArg _ (blk2_g E t o)

/-- The result array after the launch, from what each grid point leaves. -/
theorem arr2_6_of (G : FVec Ideal S2x2x2x384x3136 .f32)
    (h : ∀ (t : Fin cfg2.N) o l, (show FVec Ideal S1x1x1x384x3136 .f32 from (dat2 V c).after 6 t) (ix5 0 0 0 o l)
      = G (ix5 (img0 t) (row0 t) (col0 t) o l)) : (dat2 V c).arrAt 6 cfg2.N = G := by
  refine (dat2 V c).arrAt_eq_of_covers 6 _ (by decide +kernel) fun t _ y => ?_
  change S1x1x1x384x3136.Idx at y
  idx_vars y
  obtain rfl : y0 = 0 := Subsingleton.elim _ _
  obtain rfl : y1 = 0 := Subsingleton.elim _ _
  obtain rfl : y2 = 0 := Subsingleton.elim _ _
  refine (h t y3 y4).trans ?_
  clear h
  blk_ext [idx2 t, img0, row0, col0]

/-- The result array after the third kernel. -/
theorem arr2_6 (E : Entry2 V c T X g b) (n h w : Fin 2) (o : Fin 384) (l : Fin 3136) :
    (show FVec Ideal S2x2x2x384x3136 .f32 from (dat2 V c).arrAt 6 cfg2.N) (ix5 n h w o l) = finished T X g b n h w o l :=
  congrFun (arr2_6_of (fun i => finished T X g b (i 0) (i 1) (i 2) (i 3) (i 4)) (point2 E)) _

end Cert.KernelIdeal.Value

end
-- ==== Proof.KernelValue.lean ====
/- The kernel's result, as a formula of its arguments: the three launches and the host code around them, one after another. -/
module

public import proofs.«01_k».proof.Proof.HostPrep
public import proofs.«01_k».proof.Proof.Region0
public import proofs.«01_k».proof.Proof.Region1
public import proofs.«01_k».proof.Proof.Region2
public import Idealize.ShloMosaic.Lib.Pipeline.ValueKit

@[expose] public section

set_option maxRecDepth 16384

noncomputable section

open Idealize.ShloMosaic Idealize.ShloMosaic.TcCoe Idealize.SL.Sem

namespace Cert.KernelIdeal.Value

open Cert.KernelIdeal Cert.KernelIdeal.Gen Cert.Block

variable (m : (ℓ : Loc nD τ sig) → Buf (Elt Ideal) ℓ) (ρ : Dev nD → PrngReg) (c : Dev nD)

/-- The argument arrays as real numbers. -/
structure Args (m : (ℓ : Loc nD τ sig) → Buf (Elt Ideal) ℓ) (c : Dev nD) (X : Fin 2 → Fin 384 → Fin 112 → Fin 112 → ℝ)
    (pw : Fin 768 → Fin 384 → ℝ) (pb : Fin 768 → ℝ) (mw : Fin 384 → Fin 384 → ℝ) (mb : Fin 384 → ℝ) (gw gb : Fin 384 → ℝ)
    (w0 : Fin 768 → Fin 768 → ℝ) (b0 : Fin 768 → ℝ) (w1 : Fin 384 → Fin 768 → ℝ) (b1 : Fin 384 → ℝ) : Prop where
  x : ∀ n k p q, (m ((c : Thread nD τ).loc main_arg0) : FVec Ideal S2x384x112x112 .f32) (ix4 n k p q) = (X n k p q : EReal)
  pw : ∀ o k, (m ((c : Thread nD τ).loc main_arg1) : FVec Ideal S768x384 .f32) (ix2 o k) = (pw o k : EReal)
  pb : ∀ o, (m ((c : Thread nD τ).loc main_arg2) : FVec Ideal S768 .f32) (ix1 o) = (pb o : EReal)
  mw : ∀ o k, (m ((c : Thread nD τ).loc main_arg3) : FVec Ideal S384x384 .f32) (ix2 o k) = (mw o k : EReal)
  mb : ∀ o, (m ((c : Thread nD τ).loc main_arg4) : FVec Ideal S384 .f32) (ix1 o) = (mb o : EReal)
  gw : ∀ o, (m ((c : Thread nD τ).loc main_arg7) : FVec Ideal S384 .f32) (ix1 o) = (gw o : EReal)
  gb : ∀ o, (m ((c : Thread nD τ).loc main_arg8) : FVec Ideal S384 .f32) (ix1 o) = (gb o : EReal)
  w0 : ∀ o k, (m ((c : Thread nD τ).loc main_arg9) : FVec Ideal S768x768 .f32) (ix2 o k) = (w0 o k : EReal)
  b0 : ∀ o, (m ((c : Thread nD τ).loc main_arg10) : FVec Ideal S768 .f32) (ix1 o) = (b0 o : EReal)
  w1 : ∀ o k, (m ((c : Thread nD τ).loc main_arg11) : FVec Ideal S384x768 .f32) (ix2 o k) = (w1 o k : EReal)
  b1 : ∀ o, (m ((c : Thread nD τ).loc main_arg12) : FVec Ideal S384 .f32) (ix1 o) = (b1 o : EReal)

/-- The two scalars the similarity is scaled and shifted by, and the last norm's weight and bias: any values. -/
def alphaOf : EReal := (m ((c : Thread nD τ).loc main_arg5) : FVec Ideal S1 .f32) (ix1 0)
/-- The similarity's shift. -/
def betaOf : EReal := (m ((c : Thread nD τ).loc main_arg6) : FVec Ideal S1 .f32) (ix1 0)
/-- The last norm's weight. -/
def lastW (o : Fin 384) : EReal := (m ((c : Thread nD τ).loc main_arg13) : FVec Ideal S384 .f32) (ix1 o)
/-- The last norm's bias. -/
def lastB (o : Fin 384) : EReal := (m ((c : Thread nD τ).loc main_arg14) : FVec Ideal S384 .f32) (ix1 o)

variable {m c} {X : Fin 2 → Fin 384 → Fin 112 → Fin 112 → ℝ}
    {pw : Fin 768 → Fin 384 → ℝ} {pb : Fin 768 → ℝ} {mw : Fin 384 → Fin 384 → ℝ} {mb : Fin 384 → ℝ} {gw gb : Fin 384 → ℝ}
    {w0 : Fin 768 → Fin 768 → ℝ} {b0 : Fin 768 → ℝ} {w1 : Fin 384 → Fin 768 → ℝ} {b1 : Fin 384 → ℝ}

/-- What the first launch finds in its operands. -/
theorem entry0 (A : Args m c X pw pb mw mb gw gb w0 b0 w1 b1) :
    Entry0 (V9 m ρ) c (tiles X) pw pb mw mb (alphaOf m c) (betaOf m c) where
  a := W9_a m ρ c
  b := W9_b m ρ c
  x n h w k l := (W9_x m ρ c n h w k l).trans (A.x n k _ _)
  pw o k := (congrFun (W9_args m ρ c main_arg1 (by decide)) _).trans (A.pw o k)
  pb o := (W9_pb m ρ c o).trans (A.pb o)
  mw o k := (congrFun (W9_args m ρ c main_arg3 (by decide)) _).trans (A.mw o k)
  mb o := (W9_mb m ρ c o).trans (A.mb o)
  q := W9_q m ρ c

/-- The clustered and merged tiles. -/
def mergedOf (m : (ℓ : Loc nD τ sig) → Buf (Elt Ideal) ℓ) (c : Dev nD) (X : Fin 2 → Fin 384 → Fin 112 → Fin 112 → ℝ)
    (pw : Fin 768 → Fin 384 → ℝ) (pb : Fin 768 → ℝ) (mw : Fin 384 → Fin 384 → ℝ) (mb : Fin 384 → ℝ) (n h w : Fin 2) : Fin 384 → Fin 3136 → ℝ :=
  merged (alphaOf m c) (betaOf m c) pw pb mw mb (tiles X n h w)

/-- The second launch finds the first norm's weight in its column. -/
theorem W11_gw (o : Fin 384) : (W11 m ρ c (Proc.devRef .tc main_v26) : FVec Ideal S384x1 .f32) (ix2 o 0)
    = (m ((c : Thread nD τ).loc main_arg7) : FVec Ideal S384 .f32) (ix1 o) := by
  rw [← W10_args m ρ c main_arg7 (by decide)]
  refine Eq.trans (congrFun ?_ _) (col384_at _ o)
  generalize hX : W10 m ρ c = X
  show StableHlo.after hostOps1 (W10 m ρ c) _ = _
  rw [hX]
  after_results
  rfl
/-- The second launch finds the first norm's bias in its column. -/
theorem W11_gb (o : Fin 384) : (W11 m ρ c (Proc.devRef .tc main_v27) : FVec Ideal S384x1 .f32) (ix2 o 0)
    = (m ((c : Thread nD τ).loc main_arg8) : FVec Ideal S384 .f32) (ix1 o) := by
  rw [← W10_args m ρ c main_arg8 (by decide)]
  refine Eq.trans (congrFun ?_ _) (col384_at _ o)
  generalize hX : W10 m ρ c = X
  show StableHlo.after hostOps1 (W10 m ρ c) _ = _
  rw [hX]
  after_results
  rfl
/-- The second launch finds the first layer's bias in its column. -/
theorem W11_b0 (o : Fin 768) : (W11 m ρ c (Proc.devRef .tc main_v28) : FVec Ideal S768x1 .f32) (ix2 o 0)
    = (m ((c : Thread nD τ).loc main_arg10) : FVec Ideal S768 .f32) (ix1 o) := by
  rw [← W10_args m ρ c main_arg10 (by decide)]
  refine Eq.trans (congrFun ?_ _) (col768_at _ o)
  generalize hX : W10 m ρ c = X
  show StableHlo.after hostOps1 (W10 m ρ c) _ = _
  rw [hX]
  after_results
  rfl
/-- The second launch finds the second layer's bias in its column. -/
theorem W11_b1 (o : Fin 384) : (W11 m ρ c (Proc.devRef .tc main_v29) : FVec Ideal S384x1 .f32) (ix2 o 0)
    = (m ((c : Thread nD τ).loc main_arg12) : FVec Ideal S384 .f32) (ix1 o) := by
  rw [← W10_args m ρ c main_arg12 (by decide)]
  refine Eq.trans (congrFun ?_ _) (col384_at _ o)
  generalize hX : W10 m ρ c = X
  show StableHlo.after hostOps1 (W10 m ρ c) _ = _
  rw [hX]
  after_results
  rfl
/-- The third launch finds the last norm's weight in its column. -/
theorem W13_g (o : Fin 384) : (W13 m ρ c (Proc.devRef .tc main_v31) : FVec Ideal S384x1 .f32) (ix2 o 0)
    = (m ((c : Thread nD τ).loc main_arg13) : FVec Ideal S384 .f32) (ix1 o) := by
  rw [← W12_args m ρ c main_arg13 (by decide)]
  refine Eq.trans (congrFun ?_ _) (col384_at _ o)
  generalize hX : W12 m ρ c = X
  show StableHlo.after hostOps2 (W12 m ρ c) _ = _
  rw [hX]
  after_results
  rfl
/-- The third launch finds the last norm's bias in its column. -/
theorem W13_b (o : Fin 384) : (W13 m ρ c (Proc.devRef .tc main_v32) : FVec Ideal S384x1 .f32) (ix2 o 0)
    = (m ((c : Thread nD τ).loc main_arg14) : FVec Ideal S384 .f32) (ix1 o) := by
  rw [← W12_args m ρ c main_arg14 (by decide)]
  refine Eq.trans (congrFun ?_ _) (col384_at _ o)
  generalize hX : W12 m ρ c = X
  show StableHlo.after hostOps2 (W12 m ρ c) _ = _
  rw [hX]
  after_results
  rfl

/-- The second launch finds the input cut into tiles. -/
theorem W11_x (A : Args m c X pw pb mw mb gw gb w0 b0 w1 b1) (n h w : Fin 2) (k : Fin 384) (l : Fin 3136) :
    (W11 m ρ c (Proc.devRef .tc main_v2) : FVec Ideal S2x2x2x384x3136 .f32) (ix5 n h w k l) = (tiles X n h w k l : EReal) := by
  rw [W11_of _ _ _ _ (by decide), W10_of _ _ _ _ (by decide)]
  exact (W9_x m ρ c n h w k l).trans (A.x n k _ _)

/-- What the second launch finds in its operands. -/
theorem entry1 (A : Args m c X pw pb mw mb gw gb w0 b0 w1 b1) :
    Entry1 (V11 m ρ) c (mergedOf m c X pw pb mw mb) (tiles X) gw gb w0 b0 w1 b1 where
  s n h w := by
    show (W11 m ρ c (Proc.devRef .tc main_v25_1) : FVec Ideal S8x1x1 .f32) _ = _
    rw [W11_of _ _ _ _ (by decide)]
    refine (congrFun (W10_arr m ρ c 9) _).trans ((arr0_9 (entry0 ρ A) (pointOf n h w)).trans ?_)
    rw [img0_pointOf, row0_pointOf, col0_pointOf]; rfl
  q n h w := by
    show (W11 m ρ c (Proc.devRef .tc main_v25_2) : FVec Ideal S8x1x1 .f32) _ = _
    rw [W11_of _ _ _ _ (by decide)]
    refine (congrFun (W10_arr m ρ c 10) _).trans ((arr0_10 (entry0 ρ A) (pointOf n h w)).trans ?_)
    rw [img0_pointOf, row0_pointOf, col0_pointOf]; rfl
  x := W11_x ρ A
  m n h w k l := by
    show (W11 m ρ c (Proc.devRef .tc main_v25_0) : FVec Ideal S2x2x2x384x3136 .bf16) _ = _
    rw [W11_of _ _ _ _ (by decide)]
    exact (congrFun (W10_arr m ρ c 8) _).trans (arr0_8 (entry0 ρ A) n h w k l)
  gw o := (W11_gw ρ o).trans (A.gw o)
  gb o := (W11_gb ρ o).trans (A.gb o)
  w0 o k := (congrFun (W11_args m ρ c main_arg9 (by decide)) _).trans (A.w0 o k)
  b0 o := (W11_b0 ρ o).trans (A.b0 o)
  w1 o k := (congrFun (W11_args m ρ c main_arg11 (by decide)) _).trans (A.w1 o k)
  b1 o := (W11_b1 ρ o).trans (A.b1 o)

/-- The network's result, of the arguments. -/
def networkOf (m : (ℓ : Loc nD τ sig) → Buf (Elt Ideal) ℓ) (c : Dev nD) (X : Fin 2 → Fin 384 → Fin 112 → Fin 112 → ℝ)
    (pw : Fin 768 → Fin 384 → ℝ) (pb : Fin 768 → ℝ) (mw : Fin 384 → Fin 384 → ℝ) (mb : Fin 384 → ℝ) (gw gb : Fin 384 → ℝ)
    (w0 : Fin 768 → Fin 768 → ℝ) (b0 : Fin 768 → ℝ) (w1 : Fin 384 → Fin 768 → ℝ) (b1 : Fin 384 → ℝ) :
    Fin 2 → Fin 2 → Fin 2 → Fin 384 → Fin 3136 → ℝ :=
  mixed (mergedOf m c X pw pb mw mb) (tiles X) gw gb w0 b0 w1 b1

/-- What the third launch finds in its operands. -/
theorem entry2 (A : Args m c X pw pb mw mb gw gb w0 b0 w1 b1) :
    Entry2 (V13 m ρ) c (networkOf m c X pw pb mw mb gw gb w0 b0 w1 b1) (tiles X) (lastW m c) (lastB m c) where
  s n h w := by
    show (W13 m ρ c (Proc.devRef .tc main_v30_1) : FVec Ideal S8x1x1 .f32) _ = _
    rw [W13_of _ _ _ _ (by decide)]
    exact (congrFun (W12_arr m ρ c 11) _).trans (arr1_11 (entry1 ρ A) n h w)
  q n h w := by
    show (W13 m ρ c (Proc.devRef .tc main_v30_2) : FVec Ideal S8x1x1 .f32) _ = _
    rw [W13_of _ _ _ _ (by decide)]
    exact (congrFun (W12_arr m ρ c 12) _).trans (arr1_12 (entry1 ρ A) n h w)
  g o := W13_g ρ o
  b o := W13_b ρ o
  t n h w k l := by
    show (W13 m ρ c (Proc.devRef .tc main_v30_0) : FVec Ideal S2x2x2x384x3136 .bf16) _ = _
    rw [W13_of _ _ _ _ (by decide)]
    exact (congrFun (W12_arr m ρ c 10) _).trans (arr1_10 (entry1 ρ A) n h w k l)
  x n h w k l := by
    show (W13 m ρ c (Proc.devRef .tc main_v2) : FVec Ideal S2x2x2x384x3136 .f32) _ = _
    rw [W13_of _ _ _ _ (by decide), W12_of _ _ _ _ (by decide)]
    exact W11_x ρ A n h w k l

/-- The tiles put back together read, at a row and a column, the tile's pixel there. -/
theorem untile_at (y : FVec Ideal S2x2x2x384x3136 .f32) (n : Fin 2) (o : Fin 384) (p q : Fin 112) :
    shapeCast S2x384x112x112 (transpose S2x384x2x56x2x56 [0, 3, 1, 4, 2, 5] (shapeCast S2x2x2x384x56x56 y shapeCasts_S2x2x2x384x3136_S2x2x2x384x56x56)
      transposes_S2x2x2x384x56x56_S2x384x2x56x2x56_0_3_1_4_2_5) shapeCasts_S2x384x2x56x2x56_S2x384x112x112 (ix4 n o p q)
    = y (ix5 n (tileOf p) (tileOf q) o (pixelOf p q)) := by
  pointwise
  rfl

/-- The kernel's result. -/
theorem result_at (A : Args m c X pw pb mw mb gw gb w0 b0 w1 b1) (n : Fin 2) (o : Fin 384) (p q : Fin 112) :
    (W15 m ρ c (Proc.devRef .tc main_v36) : FVec Ideal S2x384x112x112 .f32) (ix4 n o p q)
      = finished (networkOf m c X pw pb mw mb gw gb w0 b0 w1 b1) (tiles X) (lastW m c) (lastB m c) n (tileOf p) (tileOf q) o (pixelOf p q) := by
  refine Eq.trans ?_ (arr2_6 (entry2 ρ A) n (tileOf p) (tileOf q) o (pixelOf p q))
  refine Eq.trans ?_ (congrFun (W14_arr m ρ c 6) _)
  refine Eq.trans (congrFun ?_ _) (untile_at _ n o p q)
  generalize hX : W14 m ρ c = X
  show StableHlo.after hostOps3 (W14 m ρ c) _ = _
  rw [hX]
  after_results
  rfl

end Cert.KernelIdeal.Value

end
-- ==== Proof.RefTools.lean ====
/- Two reductions over several axes, and a scatter of rows, read at an index; and finite sums cut into rows and cells. -/
module

public import proofs.«01_k».proof.Proof.Model
public import Idealize.ShloMosaic.Lib.Routing.Ops

@[expose] public section

noncomputable section

namespace Cert.Block

open Idealize.ShloMosaic Idealize.ShloMosaic.Routing

/-- A sum over the fourth and the sixth axis of six, at an index. -/
theorem sum_cells {n0 n1 n2 n3 n4 n5 : ℕ} (h : (⟨6, ![n0, n1, n2, n3, n4, n5]⟩ : Shape).ReducesTo [3, 5] ⟨4, ![n0, n1, n2, n4]⟩)
    (x : (⟨6, ![n0, n1, n2, n3, n4, n5]⟩ : Shape).Idx → EReal) (e : EReal) (a0 : Fin n0) (a1 : Fin n1) (a2 : Fin n2) (a4 : Fin n4) :
    Ideal.hostReduceAdd h x e (ix4 a0 a1 a2 a4) = e + ∑ u : Fin n3, ∑ v : Fin n5, x (ix6 a0 a1 a2 u a4 v) := by
  refine congrArg (e + ·) ((Finset.sum_filter_eq_sum_of_fiber _ (fun k : Fin n3 × Fin n5 => ix6 a0 a1 a2 k.1 a4 k.2)
    (fun _ _ e => Prod.ext (congrFun e 3) (congrFun e 5)) (fun i => ?_) x).trans ?_)
  · constructor
    · intro e
      refine ⟨(i 3, i 5), ?_⟩
      funext a; apply Fin.ext
      match a with
      | ⟨0, _⟩ => exact (congrArg Fin.val (congrFun e 0)).symm
      | ⟨1, _⟩ => exact (congrArg Fin.val (congrFun e 1)).symm
      | ⟨2, _⟩ => exact (congrArg Fin.val (congrFun e 2)).symm
      | ⟨3, _⟩ => rfl
      | ⟨4, _⟩ => exact (congrArg Fin.val (congrFun e 3)).symm
      | ⟨5, _⟩ => rfl
    · rintro ⟨k, rfl⟩
      funext b; apply Fin.ext
      match b with
      | ⟨0, _⟩ => rfl
      | ⟨1, _⟩ => rfl
      | ⟨2, _⟩ => rfl
      | ⟨3, _⟩ => rfl
  · simp only [Fintype.sum_prod_type]

/-- A sum over the last three axes of four, at an index. -/
theorem sum_image {n0 n1 n2 n3 : ℕ} (h : (⟨4, ![n0, n1, n2, n3]⟩ : Shape).ReducesTo [1, 2, 3] ⟨1, ![n0]⟩)
    (x : (⟨4, ![n0, n1, n2, n3]⟩ : Shape).Idx → EReal) (e : EReal) (a0 : Fin n0) :
    Ideal.hostReduceAdd h x e (ix1 a0) = e + ∑ o : Fin n1, ∑ p : Fin n2, ∑ q : Fin n3, x (ix4 a0 o p q) := by
  refine congrArg (e + ·) ((Finset.sum_filter_eq_sum_of_fiber _ (fun k : Fin n1 × Fin n2 × Fin n3 => ix4 a0 k.1 k.2.1 k.2.2)
    (fun _ _ e => Prod.ext (congrFun e 1) (Prod.ext (congrFun e 2) (congrFun e 3))) (fun i => ?_) x).trans ?_)
  · constructor
    · intro e
      refine ⟨(i 1, i 2, i 3), ?_⟩
      funext a; apply Fin.ext
      match a with
      | ⟨0, _⟩ => exact (congrArg Fin.val (congrFun e 0)).symm
      | ⟨1, _⟩ => rfl
      | ⟨2, _⟩ => rfl
      | ⟨3, _⟩ => rfl
    · rintro ⟨k, rfl⟩
      funext b; apply Fin.ext
      match b with
      | ⟨0, _⟩ => rfl
  · simp only [Fintype.sum_prod_type]

/-- Entry `y` of row `r` of a scatter of rows into a table lands at entry `y'` of row `b` exactly when the row's index
    word, read signed, is `b` and the entries are the same. -/
theorem scatter_row_lands {nb B n : ℕ} (d : ScatterDims (shape2 nb B) (shape2 n 1) (shape2 n B)) (huw : d.updateWindowDims = [1])
    (hiw : d.insertedWindowDims = [0]) (hsd : d.scatterDimsToOperandDims = [0]) (hivd : d.indexVectorDim = 1)
    (idx : IVec (shape2 n 1) 32) (r : Fin n) (y : Fin B) (b : Fin nb) (y' : Fin B) :
    d.resultIdx? (ix2 r y) idx = some (ix2 b y') ↔ (idx (ix2 r (0 : Fin 1))).toInt = (b.val : Int) ∧ y = y' := by
  have hm : (0 : Fin 2) ∈ d.scatterDimsToOperandDims := by rw [hsd]; exact List.mem_singleton.2 rfl
  have hm1 : (1 : Fin 2) ∉ d.scatterDimsToOperandDims := by rw [hsd]; simp
  have hk1 : (1 : Fin 2) ∈ d.sKept := List.mem_filter.2 ⟨List.mem_finRange _, decide_eq_true (by rw [hiw]; simp)⟩
  have hu : ∀ k ∈ d.updateWindowDims, k = (1 : Fin 2) := fun k hk => by rw [huw] at hk; exact List.mem_singleton.1 hk
  have hs : ∀ k ∈ d.uScatter, k = (0 : Fin 2) := fun k hk => by
    have hk' : k ∉ d.updateWindowDims := of_decide_eq_true (List.mem_filter.1 hk).2
    rw [huw] at hk'
    have h1 : k.val ≠ 1 := fun e => hk' (List.mem_singleton.2 (Fin.ext e))
    have h2 : k.val < 2 := k.isLt
    exact Fin.ext (by show k.val = 0; omega)
  have e0 : ∀ X : Fin 2, X = 0 → (ix2 r y X).val = r.val := fun X h => by subst h; rfl
  have e1 : ∀ X : Fin 2, X = 1 → (ix2 r y X).val = y.val := fun X h => by subst h; rfl
  have hwin0 : d.window (ix2 r y) 0 = 0 := by
    unfold ScatterDims.window
    rw [dif_neg fun h => (of_decide_eq_true (List.mem_filter.1 h).2) (by rw [hiw]; exact List.mem_singleton.2 rfl)]
  have hwin1 : d.window (ix2 r y) 1 = y.val := by
    unfold ScatterDims.window
    rw [dif_pos hk1]
    exact e1 _ (hu _ (List.getElem_mem _))
  have hstart1 : d.start (ix2 r y) idx 1 = 0 := by
    unfold ScatterDims.start
    rw [dif_neg hm1]
  have hstart0 : d.start (ix2 r y) idx 0 = (idx (ix2 r (0 : Fin 1))).toInt := by
    unfold ScatterDims.start
    rw [dif_pos hm]
    have hsi : d.siIdx (ix2 r y) ⟨d.scatterDimsToOperandDims.idxOf 0, List.idxOf_lt_length_iff.2 hm⟩ = ix2 r (0 : Fin 1) := by
      funext b'
      apply Fin.ext
      match b' with
      | ⟨0, _⟩ =>
        unfold ScatterDims.siIdx
        rw [dif_neg (by rw [hivd]; exact Nat.zero_ne_one)]
        unfold ScatterDims.siCoord
        simp only [Fin.val_cast]
        exact e0 _ (hs _ (List.getElem_mem _))
      | ⟨1, _⟩ =>
        unfold ScatterDims.siIdx
        rw [dif_pos (by rw [hivd])]
        show List.idxOf (0 : Fin 2) d.scatterDimsToOperandDims = 0
        rw [hsd]; simp
    rw [hsi]
  have hb := b.isLt
  have hy := y.isLt
  unfold ScatterDims.resultIdx?
  split
  · next h =>
    have h0 := h 0
    change 0 ≤ d.start (ix2 r y) idx 0 + (d.window (ix2 r y) 0 : Int) ∧ d.start (ix2 r y) idx 0 + (d.window (ix2 r y) 0 : Int) < (nb : Int) at h0
    rw [hstart0, hwin0] at h0
    constructor
    · intro e
      have f0 := congrArg Fin.val (congrFun (Option.some.inj e) 0)
      have f1 := congrArg Fin.val (congrFun (Option.some.inj e) 1)
      change (d.start (ix2 r y) idx 0 + (d.window (ix2 r y) 0 : Int)).toNat = b.val at f0
      change (d.start (ix2 r y) idx 1 + (d.window (ix2 r y) 1 : Int)).toNat = y'.val at f1
      rw [hstart0, hwin0] at f0
      rw [hstart1, hwin1] at f1
      exact ⟨by omega, Fin.ext (by omega)⟩
    · rintro ⟨e, rfl⟩
      refine congrArg some (funext fun a => Fin.ext ?_)
      match a with
      | ⟨0, _⟩ =>
        show (d.start (ix2 r y) idx 0 + (d.window (ix2 r y) 0 : Int)).toNat = b.val
        rw [hstart0, hwin0]
        omega
      | ⟨1, _⟩ =>
        show (d.start (ix2 r y) idx 1 + (d.window (ix2 r y) 1 : Int)).toNat = y.val
        rw [hstart1, hwin1]
        omega
  · next h =>
    constructor
    · intro e; cases e
    · rintro ⟨e, rfl⟩
      refine (h fun a => ?_).elim
      match a with
      | ⟨0, _⟩ =>
        show 0 ≤ d.start (ix2 r y) idx 0 + (d.window (ix2 r y) 0 : Int) ∧ d.start (ix2 r y) idx 0 + (d.window (ix2 r y) 0 : Int) < (nb : Int)
        rw [hstart0, hwin0]
        omega
      | ⟨1, _⟩ =>
        show 0 ≤ d.start (ix2 r y) idx 1 + (d.window (ix2 r y) 1 : Int) ∧ d.start (ix2 r y) idx 1 + (d.window (ix2 r y) 1 : Int) < (B : Int)
        rw [hstart1, hwin1]
        omega

/-- The accumulating scatter of rows: an entry gains the same entry of every row whose index is its row. -/
theorem scatter_rows {nb B n : ℕ} (d : ScatterDims (shape2 nb B) (shape2 n 1) (shape2 n B)) (huw : d.updateWindowDims = [1])
    (hiw : d.insertedWindowDims = [0]) (hsd : d.scatterDimsToOperandDims = [0]) (hivd : d.indexVectorDim = 1)
    (x : (shape2 nb B).Idx → EReal) (idx : IVec (shape2 n 1) 32) (upd : (shape2 n B).Idx → EReal) (b : Fin nb) (y : Fin B) :
    Ideal.hostScatterAdd d x idx upd (ix2 b y)
      = x (ix2 b y) + ∑ r : Fin n, if (idx (ix2 r (0 : Fin 1))).toInt = (b.val : Int) then upd (ix2 r y) else 0 := by
  refine congrArg (x (ix2 b y) + ·) ?_
  rw [← Finset.sum_filter]
  have key : ∀ j : (shape2 n B).Idx, d.resultIdx? j idx = some (ix2 b y) →
      ∃ r : Fin n, j = ix2 r y ∧ (idx (ix2 r (0 : Fin 1))).toInt = (b.val : Int) := fun j hj => by
    obtain ⟨r, y', rfl⟩ : ∃ (r : Fin n) (y' : Fin B), j = ix2 r y' := ⟨_, _, eq_ix2 j⟩
    have h := (scatter_row_lands d huw hiw hsd hivd idx r y' b y).1 hj
    exact ⟨r, by rw [h.2], h.1⟩
  refine Finset.sum_nbij' (fun j => j 0) (fun r => ix2 r y) (fun j hj => ?_) (fun r hr => ?_) (fun j hj => ?_) (fun r hr => rfl) (fun j hj => ?_)
  · obtain ⟨r, rfl, h⟩ := key j (Finset.mem_filter.1 hj).2
    exact Finset.mem_filter.2 ⟨Finset.mem_univ _, h⟩
  · exact Finset.mem_filter.2 ⟨Finset.mem_univ _, (scatter_row_lands d huw hiw hsd hivd idx r y b y).2 ⟨(Finset.mem_filter.1 hr).2, rfl⟩⟩
  · obtain ⟨r, rfl, h⟩ := key j (Finset.mem_filter.1 hj).2
    rfl
  · obtain ⟨r, rfl, h⟩ := key j (Finset.mem_filter.1 hj).2
    rfl

/-- The pixel at row `i` and column `j` of a tile. -/
def pix (i j : Fin 56) : Fin 3136 := ⟨i.val * 56 + j.val, by omega⟩

/-- The pixel of a pixel's row and column is that pixel. -/
theorem pix_of (l : Fin 3136) (hi : l.val / 56 < 56) (hj : l.val % 56 < 56) : pix ⟨l.val / 56, hi⟩ ⟨l.val % 56, hj⟩ = l :=
  Fin.ext (by simp only [pix]; omega)

/-- The mean over a cell, as a sum over the cell's rows and columns. -/
theorem center_eq (y : Fin 96 → Fin 3136 → ℝ) (c : Fin 96) (s : Fin 49) :
    center y c s = (∑ u : Fin 8, ∑ v : Fin 8, y c (pix ⟨s.val / 7 * 8 + u.val, by omega⟩ ⟨s.val % 7 * 8 + v.val, by omega⟩)) / 64 := by
  have hs : ∀ l, y c l * (if cellOf l = s then 1 / 64 else 0) = (if cellOf l = s then y c l else 0) / 64 := fun l => by
    split <;> ring
  simp only [center, hs]
  rw [← Finset.sum_div, ← Finset.sum_filter]
  refine congrArg (· / 64) ((Finset.sum_filter_eq_sum_of_fiber _ (fun k : Fin 8 × Fin 8 =>
    pix ⟨s.val / 7 * 8 + k.1.val, by omega⟩ ⟨s.val % 7 * 8 + k.2.val, by omega⟩) (fun k k' e => ?_) (fun l => ?_) _).trans ?_)
  · have e := congrArg Fin.val e
    simp only [pix] at e
    exact Prod.ext (Fin.ext (by omega)) (Fin.ext (by omega))
  · constructor
    · rintro rfl
      refine ⟨(⟨l.val / 56 % 8, by omega⟩, ⟨l.val % 56 % 8, by omega⟩), Fin.ext ?_⟩
      simp only [pix, cellOf]; omega
    · rintro ⟨k, rfl⟩
      refine Fin.ext ?_
      simp only [pix, cellOf]; omega
  · simp only [Fintype.sum_prod_type]

end Cert.Block

end
-- ==== Proof.RefProject.lean ====
/- The reference's first projection, cut into groups, and the groups' cell means, as real numbers. -/
module

public import proofs.«01_k».proof.Proof.Gen.ReferenceIdeal.Run
public import proofs.«01_k».proof.Proof.RefTools
public import Idealize.ShloMosaic.Lib.Pipeline.ValueKit
public import Idealize.ShloMosaic.Lib.Tactic.CleanTypes

@[expose] public section

set_option maxRecDepth 16384

noncomputable section

open Idealize.ShloMosaic Idealize.ShloMosaic.TcCoe Idealize.SL.Sem

namespace Cert.ReferenceIdeal.Value

open Cert.ReferenceIdeal Cert.Block

/-- The argument arrays as real numbers. -/
structure Args (V0 : Valuation τ sig (Elt Ideal)) (X : Fin 2 → Fin 384 → Fin 112 → Fin 112 → ℝ)
    (pw : Fin 768 → Fin 384 → ℝ) (pb : Fin 768 → ℝ) (mw : Fin 384 → Fin 384 → ℝ) (mb : Fin 384 → ℝ) (gw gb : Fin 384 → ℝ)
    (w0 : Fin 768 → Fin 768 → ℝ) (b0 : Fin 768 → ℝ) (w1 : Fin 384 → Fin 768 → ℝ) (b1 : Fin 384 → ℝ) : Prop where
  x : ∀ n k p q, (V0 (Proc.devRef .tc main_arg0) : FVec Ideal S2x384x112x112 .f32) (ix4 n k p q) = (X n k p q : EReal)
  pw : ∀ o k, (V0 (Proc.devRef .tc main_arg1) : FVec Ideal S768x384 .f32) (ix2 o k) = (pw o k : EReal)
  pb : ∀ o, (V0 (Proc.devRef .tc main_arg2) : FVec Ideal S768 .f32) (ix1 o) = (pb o : EReal)
  mw : ∀ o k, (V0 (Proc.devRef .tc main_arg3) : FVec Ideal S384x384 .f32) (ix2 o k) = (mw o k : EReal)
  mb : ∀ o, (V0 (Proc.devRef .tc main_arg4) : FVec Ideal S384 .f32) (ix1 o) = (mb o : EReal)
  gw : ∀ o, (V0 (Proc.devRef .tc main_arg7) : FVec Ideal S384 .f32) (ix1 o) = (gw o : EReal)
  gb : ∀ o, (V0 (Proc.devRef .tc main_arg8) : FVec Ideal S384 .f32) (ix1 o) = (gb o : EReal)
  w0 : ∀ o k, (V0 (Proc.devRef .tc main_arg9) : FVec Ideal S768x768 .f32) (ix2 o k) = (w0 o k : EReal)
  b0 : ∀ o, (V0 (Proc.devRef .tc main_arg10) : FVec Ideal S768 .f32) (ix1 o) = (b0 o : EReal)
  w1 : ∀ o k, (V0 (Proc.devRef .tc main_arg11) : FVec Ideal S384x768 .f32) (ix2 o k) = (w1 o k : EReal)
  b1 : ∀ o, (V0 (Proc.devRef .tc main_arg12) : FVec Ideal S384 .f32) (ix1 o) = (b1 o : EReal)

variable {V0 : Valuation τ sig (Elt Ideal)} {X : Fin 2 → Fin 384 → Fin 112 → Fin 112 → ℝ}
    {pw : Fin 768 → Fin 384 → ℝ} {pb : Fin 768 → ℝ} {mw : Fin 384 → Fin 384 → ℝ} {mb : Fin 384 → ℝ} {gw gb : Fin 384 → ℝ}
    {w0 : Fin 768 → Fin 768 → ℝ} {b0 : Fin 768 → ℝ} {w1 : Fin 384 → Fin 768 → ℝ} {b1 : Fin 384 → ℝ}

/-- Of the 64 groups of 96 channels on a tile: the image, the channels' group, and the tile. -/
def imgG (m : Fin 64) : Fin 2 := ⟨m.val / 32, by omega⟩
/-- The group of channels of one of the 64 groups. -/
def chnG (m : Fin 64) : Fin 8 := ⟨m.val / 4 % 8, by omega⟩
/-- The row of tiles of one of the 64 groups. -/
def rowG (m : Fin 64) : Fin 2 := ⟨m.val / 2 % 2, by omega⟩
/-- The column of tiles of one of the 64 groups. -/
def colG (m : Fin 64) : Fin 2 := ⟨m.val % 2, by omega⟩

/-- The projection of group `m`. -/
def projG (pw : Fin 768 → Fin 384 → ℝ) (pb : Fin 768 → ℝ) (X : Fin 2 → Fin 384 → Fin 112 → Fin 112 → ℝ) (m : Fin 64) : Fin 96 → Fin 3136 → ℝ :=
  proj pw pb (tiles X (imgG m) (rowG m) (colG m)) (chnG m)

/-- The projection, cut into groups. -/
theorem v7_at (A : Args V0 X pw pb mw mb gw gb w0 b0 w1 b1) (m : Fin 64) (c : Fin 96) (i j : Fin 56) :
    (Value.res_main_v7 V0 : FVec Ideal S64x96x56x56 .f32) (ix4 m c i j) = (projG pw pb X m c (pix i j) : EReal) := by
  have hx := A.x
  have hw := A.pw
  have hb := A.pb
  unfold Value.res_main_v7
  generalize (V0 (Proc.devRef .tc main_arg0) : FVec Ideal S2x384x112x112 .f32) = x at *
  generalize (V0 (Proc.devRef .tc main_arg1) : FVec Ideal S768x384 .f32) = w at *
  generalize (V0 (Proc.devRef .tc main_arg2) : FVec Ideal S768 .f32) = b at *
  clear A
  clean_types
  pointwise [hx, hw, hb]
  simp only [← EReal.coe_mul, coe_sum, ← EReal.coe_add]
  refine congrArg _ (congrArg₂ _ (Finset.sum_congr rfl fun k _ => congrArg₂ _ (congrArg₂ _ (Fin.ext ?_) rfl)
    (congr (congr (congrArg₂ _ rfl rfl) (Fin.ext ?_)) (Fin.ext ?_))) (congrArg _ (Fin.ext ?_)))
  all_goals simp only [chan, chnG, rowAt, colAt, rowG, colG, pix]; omega

/-- The same, pixels by row-major number before channels. -/
theorem v13_at (Y : Fin 64 → Fin 96 → Fin 3136 → ℝ)
    (hY : ∀ m c i j, (Value.res_main_v7 V0 : FVec Ideal S64x96x56x56 .f32) (ix4 m c i j) = (Y m c (pix i j) : EReal))
    (m : Fin 64) (l : Fin 3136) (c : Fin 96) :
    (Value.res_main_v13 V0 : FVec Ideal S64x3136x96 .f32) (ix3 m l c) = (Y m c l : EReal) := by
  unfold Value.res_main_v13
  generalize (Value.res_main_v7 V0 : FVec Ideal S64x96x56x56 .f32) = z at *
  clean_types
  pointwise
  rw [hY, pix_of]

/-- The cells' means. -/
theorem v15_at (Y : Fin 64 → Fin 96 → Fin 3136 → ℝ)
    (hY : ∀ m c i j, (Value.res_main_v7 V0 : FVec Ideal S64x96x56x56 .f32) (ix4 m c i j) = (Y m c (pix i j) : EReal))
    (m : Fin 64) (s : Fin 49) (c : Fin 96) :
    (Value.res_main_v15 V0 : FVec Ideal S64x49x96 .f32) (ix3 m s c) = (center (Y m) c s : EReal) := by
  unfold Value.res_main_v15
  generalize (Value.res_main_v7 V0 : FVec Ideal S64x96x56x56 .f32) = z at *
  clean_types
  pointwise [sum_cells]
  simp only [hY, coe_sum, ofBits_64]
  rw [div_coe_coe _ (by norm_num), center_eq]

/-- The compared half of the pixels. -/
theorem v16_at (Y : Fin 64 → Fin 96 → Fin 3136 → ℝ)
    (hY : ∀ m c i j, (Value.res_main_v7 V0 : FVec Ideal S64x96x56x56 .f32) (ix4 m c i j) = (Y m c (pix i j) : EReal))
    (m : Fin 64) (l : Fin 3136) (c : Fin 48) :
    (Value.res_main_v16 V0 : FVec Ideal S64x3136x48 .f32) (ix3 m l c) = (Y m (lo c) l : EReal) := by
  have h := v13_at Y hY
  unfold Value.res_main_v16
  generalize (Value.res_main_v13 V0 : FVec Ideal S64x3136x96 .f32) = z at *
  clean_types
  pointwise [h]
  rfl

/-- The compared half of the cells' means. -/
theorem v18_at (Y : Fin 64 → Fin 96 → Fin 3136 → ℝ)
    (hY : ∀ m c i j, (Value.res_main_v7 V0 : FVec Ideal S64x96x56x56 .f32) (ix4 m c i j) = (Y m c (pix i j) : EReal))
    (m : Fin 64) (s : Fin 49) (c : Fin 48) :
    (Value.res_main_v18 V0 : FVec Ideal S64x49x48 .f32) (ix3 m s c) = (center (Y m) (lo c) s : EReal) := by
  have h := v15_at Y hY
  unfold Value.res_main_v18
  generalize (Value.res_main_v15 V0 : FVec Ideal S64x49x96 .f32) = z at *
  clean_types
  pointwise [h]
  rfl

end Cert.ReferenceIdeal.Value

end
-- ==== Proof.RefMatch.lean ====
/- The reference's match of pixels and cells: the similarities, the largest of each pixel, and the first cell that has it. -/
module

public import proofs.«01_k».proof.Proof.RefProject
public import Idealize.ShloMosaic.Lib.PlanTiles.Rows

@[expose] public section

set_option maxRecDepth 16384

noncomputable section

open Idealize.ShloMosaic Idealize.ShloMosaic.TcCoe Idealize.SL.Sem

namespace Cert.ReferenceIdeal.Value

open Cert.ReferenceIdeal Cert.Block

variable {V0 : Valuation τ sig (Elt Ideal)}

/-- The scale and the offset of the similarity. -/
def alphaOf (V0 : Valuation τ sig (Elt Ideal)) : EReal := (V0 (Proc.devRef .tc main_arg5) : FVec Ideal S1 .f32) (ix1 0)
/-- The similarity's shift, as the reference holds it. -/
def betaOf (V0 : Valuation τ sig (Elt Ideal)) : EReal := (V0 (Proc.devRef .tc main_arg6) : FVec Ideal S1 .f32) (ix1 0)

/-- The similarity of a pixel and a cell. -/
theorem v42_at (Y : Fin 64 → Fin 96 → Fin 3136 → ℝ)
    (h16 : ∀ m l c, (Value.res_main_v16 V0 : FVec Ideal S64x3136x48 .f32) (ix3 m l c) = (Y m (lo c) l : EReal))
    (h18 : ∀ m s c, (Value.res_main_v18 V0 : FVec Ideal S64x49x48 .f32) (ix3 m s c) = (center (Y m) (lo c) s : EReal))
    (m : Fin 64) (l : Fin 3136) (s : Fin 49) :
    (Value.res_main_v42 V0 : FVec Ideal S64x3136x49 .f32) (ix3 m l s) = (sim (alphaOf V0) (betaOf V0) (Y m) s l : EReal) := by
  unfold Value.res_main_v42 alphaOf betaOf
  generalize (Value.res_main_v16 V0 : FVec Ideal S64x3136x48 .f32) = y at *
  generalize (Value.res_main_v18 V0 : FVec Ideal S64x49x48 .f32) = z at *
  generalize (V0 (Proc.devRef .tc main_arg5) : FVec Ideal S1 .f32) = a at *
  generalize (V0 (Proc.devRef .tc main_arg6) : FVec Ideal S1 .f32) = b at *
  clean_types
  pointwise
  simp only [h16, h18, ← EReal.coe_mul, coe_sum]
  rw [sqrt_coe_nonneg (Finset.sum_nonneg fun _ _ => mul_self_nonneg _), sqrt_coe_nonneg (Finset.sum_nonneg fun _ _ => mul_self_nonneg _),
    ofBits_normFloor, max_coe_coe, max_coe_coe]
  have hp : ∀ c, Ideal.div (Y m (lo c) l : EReal) ((max √(∑ c, Y m (lo c) l * Y m (lo c) l) normFloor : ℝ) : EReal)
      = ((Y m (lo c) l / pointLen (Y m) l : ℝ) : EReal) := fun c => div_coe_coe _ (pointLen_pos (Y m) l).ne'
  have hc : ∀ c, Ideal.div (center (Y m) (lo c) s : EReal)
        ((max √(∑ c, center (Y m) (lo c) s * center (Y m) (lo c) s) normFloor : ℝ) : EReal)
      = ((center (Y m) (lo c) s / centerLen (Y m) s : ℝ) : EReal) := fun c => div_coe_coe _ (centerLen_pos (Y m) s).ne'
  simp only [hp, hc, ← EReal.coe_mul, coe_sum]
  have hs : (∑ c, Y m (lo c) l / pointLen (Y m) l * (center (Y m) (lo c) s / centerLen (Y m) s)) = cosine (Y m) s l :=
    Finset.sum_congr rfl fun c _ => mul_comm _ _
  rw [hs]
  exact logistic_eq_coe _

/-- The largest similarity of a pixel. -/
theorem v43_at (Y : Fin 64 → Fin 96 → Fin 3136 → ℝ) (a b : EReal)
    (h42 : ∀ m l s, (Value.res_main_v42 V0 : FVec Ideal S64x3136x49 .f32) (ix3 m l s) = (sim a b (Y m) s l : EReal))
    (m : Fin 64) (l : Fin 3136) :
    (Value.res_main_v43 V0 : FVec Ideal S64x3136 .f32) (ix2 m l) = (best a b (Y m) l : EReal) := by
  unfold Value.res_main_v43
  generalize (Value.res_main_v42 V0 : FVec Ideal S64x3136x49 .f32) = y at *
  clean_types
  pointwise
  simp only [h42, ofBits_bot]
  exact fold_max_coe _

/-- The group and the pixel of row `r` of the flat arrays. -/
def groupOf (r : Fin 200704) : Fin 64 := ⟨r.val / 3136, by omega⟩
/-- The pixel of a row of the flat arrays. -/
def pointAt (r : Fin 200704) : Fin 3136 := ⟨r.val % 3136, by omega⟩

/-- The largest similarities as one flat array. -/
theorem v56_at (Y : Fin 64 → Fin 96 → Fin 3136 → ℝ) (a b : EReal)
    (h43 : ∀ m l, (Value.res_main_v43 V0 : FVec Ideal S64x3136 .f32) (ix2 m l) = (best a b (Y m) l : EReal)) (r : Fin 200704) :
    (Value.res_main_v56 V0 : FVec Ideal S200704 .f32) (ix1 r) = (best a b (Y (groupOf r)) (pointAt r) : EReal) := by
  unfold Value.res_main_v56
  generalize (Value.res_main_v43 V0 : FVec Ideal S64x3136 .f32) = y at *
  clean_types
  pointwise [h43]
  rfl

/-- The least of some words below 2³¹, as a number. -/
theorem fold_minsi (S : Finset (Fin 49)) (f : Fin 49 → ℕ) (hf : ∀ x, f x < 2 ^ 31) :
    S.fold IntOp.minsi (2147483647#32) (fun x => BitVec.ofNat 32 (f x)) = BitVec.ofNat 32 (S.fold min 2147483647 f)
      ∧ S.fold min 2147483647 f < 2 ^ 31 := by
  induction S using Finset.induction_on with
  | empty => exact ⟨rfl, by norm_num⟩
  | insert x S hx ih =>
    rw [Finset.fold_insert hx, Finset.fold_insert hx, ih.1, PlanTiles.minsi_word (hf x) ih.2, min_comm]
    exact ⟨rfl, lt_of_le_of_lt (min_le_left _ _) (hf x)⟩

/-- The least number of a cell with the largest similarity is the pixel's cell. -/
theorem fold_pick (y : Fin 96 → Fin 3136 → ℝ) (a b : EReal) (l : Fin 3136) :
    Finset.univ.fold min 2147483647 (fun s : Fin 49 => if sim a b y s l = best a b y l then s.val else 49) = (pick a b y l).val := by
  refine le_antisymm ((Finset.fold_min_le _).2 (Or.inr ⟨pick a b y l, Finset.mem_univ _, ?_⟩)) (Finset.le_fold_min _ |>.2 ⟨?_, fun s _ => ?_⟩)
  · rw [if_pos (pick_best a b y l)]
  · have := (pick a b y l).isLt; omega
  · split
    · next h => exact pick_le a b y l s h
    · exact (pick a b y l).isLt.le

/-- A cell's row in the table, as a word. -/
theorem word_row (p g : ℕ) : IntOp.addi (BitVec.ofNat 32 p) (IntOp.muli (49#32) (BitVec.ofNat 32 g)) = BitVec.ofNat 32 (p + 49 * g) := by
  rw [BitVec.ofNat_add, BitVec.ofNat_mul]
  rfl

/-- The row of the table of all groups' cells that a pixel belongs to. -/
theorem v57_at (Y : Fin 64 → Fin 96 → Fin 3136 → ℝ) (a b : EReal)
    (h42 : ∀ m l s, (Value.res_main_v42 V0 : FVec Ideal S64x3136x49 .f32) (ix3 m l s) = (sim a b (Y m) s l : EReal))
    (h43 : ∀ m l, (Value.res_main_v43 V0 : FVec Ideal S64x3136 .f32) (ix2 m l) = (best a b (Y m) l : EReal)) (r : Fin 200704) :
    (Value.res_main_v57 V0 : IVec S200704 32) (ix1 r)
      = BitVec.ofNat 32 ((pick a b (Y (groupOf r)) (pointAt r)).val + 49 * (groupOf r).val) := by
  unfold Value.res_main_v57
  generalize (Value.res_main_v43 V0 : FVec Ideal S64x3136 .f32) = z at *
  generalize (Value.res_main_v42 V0 : FVec Ideal S64x3136x49 .f32) = y at *
  clean_types
  pointwise
  simp only [h42, h43, EReal.coe_eq_coe_iff]
  have hf : (fun s : Fin 49 => if sim a b (Y (groupOf r)) s (pointAt r) = best a b (Y (groupOf r)) (pointAt r)
        then BitVec.ofNat 32 s.val else 49#32)
      = fun s : Fin 49 => BitVec.ofNat 32 (if sim a b (Y (groupOf r)) s (pointAt r) = best a b (Y (groupOf r)) (pointAt r) then s.val else 49) :=
    funext fun s => by split <;> rfl
  have h := (fold_minsi Finset.univ _ fun s : Fin 49 =>
    (show (if sim a b (Y (groupOf r)) s (pointAt r) = best a b (Y (groupOf r)) (pointAt r) then s.val else 49) < 2 ^ 31 by split <;> omega)).1
  rw [fold_pick, ← hf] at h
  exact (congrArg (fun w => IntOp.addi w (IntOp.muli (49#32) (BitVec.ofNat 32 (r.val / 3136)))) h).trans (word_row _ _)

end Cert.ReferenceIdeal.Value

end
-- ==== Proof.RefMove.lean ====
/- The reference's new values of the cells: one table of the cells of all groups, each cell's row gathering its pixels by weight,
   the weights themselves in the last entry. -/
module

public import proofs.«01_k».proof.Proof.RefMatch

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.Block

variable {V0 : Valuation τ sig (Elt Ideal)}

/-- The group and the cell of row `b` of the table. -/
def groupOfRow (b : Fin 3136) : Fin 64 := ⟨b.val / 49, by omega⟩
/-- The cell of a row of the table of cells. -/
def cellOfRow (b : Fin 3136) : Fin 49 := ⟨b.val % 49, by omega⟩

/-- Rows of the flat arrays, as pairs of a group and a pixel. -/
def rowsEquiv : Fin 200704 ≃ Fin 64 × Fin 3136 where
  toFun r := (groupOf r, pointAt r)
  invFun k := ⟨k.1.val * 3136 + k.2.val, by omega⟩
  left_inv r := Fin.ext (by simp only [groupOf, pointAt]; omega)
  right_inv k := Prod.ext (Fin.ext (by simp only [groupOf]; omega)) (Fin.ext (by simp only [pointAt]; omega))

/-- A sum over the pixels of all groups that belong to one row is the sum over its group's pixels that belong to its cell. -/
theorem sum_row (p : Fin 64 → Fin 3136 → Fin 49) (f : Fin 64 → Fin 3136 → ℝ) (b : Fin 3136) :
    (∑ r : Fin 200704, if (((p (groupOf r) (pointAt r)).val + 49 * (groupOf r).val : ℕ) : Int) = (b.val : Int) then f (groupOf r) (pointAt r) else 0)
      = ∑ l, if p (groupOfRow b) l = cellOfRow b then f (groupOfRow b) l else 0 := by
  refine (Fintype.sum_equiv rowsEquiv _ (fun k : Fin 64 × Fin 3136 =>
      if (((p k.1 k.2).val + 49 * k.1.val : ℕ) : Int) = (b.val : Int) then f k.1 k.2 else 0) (fun _ => rfl)).trans ?_
  rw [Fintype.sum_prod_type, Finset.sum_eq_single (groupOfRow b)]
  · refine Finset.sum_congr rfl fun l _ => ?_
    have h1 := (p (groupOfRow b) l).isLt
    refine if_congr ?_ rfl rfl
    rw [Fin.ext_iff]
    simp only [groupOfRow, cellOfRow] at *
    omega
  · intro m _ hm
    refine Finset.sum_eq_zero fun l _ => if_neg fun h => hm (Fin.ext ?_)
    have h1 := (p m l).isLt
    have h2 : (p m l).val + 49 * m.val = b.val := by exact_mod_cast h
    show m.val = b.val / 49
    omega
  · intro h; exact absurd (Finset.mem_univ _) h

/-- The index words of the scatter and of the gather: none is negative, so each is the row itself. -/
theorem index_at (N : Fin 200704 → ℕ) (hN : ∀ r, N r < 2 ^ 31)
    (h57 : ∀ r, (Value.res_main_v57 V0 : IVec S200704 32) (ix1 r) = BitVec.ofNat 32 (N r)) (r : Fin 200704) :
    (broadcastInDim S200704x1 ![0] bcast_S200704_S200704x1_0 (select (cmpi .slt (Value.res_main_v57 V0) (broadcastInDim S200704 ![] bcast_S_S200704 (constantI S_ 32 0#32))) (addi (Value.res_main_v57 V0) (broadcastInDim S200704 ![] bcast_S_S200704 (constantI S_ 32 3136#32))) (Value.res_main_v57 V0)) : IVec S200704x1 32) (ix2 r 0)
      = BitVec.ofNat 32 (N r) := by
  generalize (Value.res_main_v57 V0 : IVec S200704 32) = z at *
  clean_types
  pointwise
  rw [h57, Scalar.select, if_neg]
  show ¬BitVec.ofBool ((BitVec.ofNat 32 (N r)).slt (BitVec.ofNat 32 0)) = 1
  rw [Routing.slt_ofNat32 (hN r) (by norm_num)]
  simp

/-- The table before the pixels: the cells' means of the carried channels. -/
theorem table_at (Y : Fin 64 → Fin 96 → Fin 3136 → ℝ)
    (h15 : ∀ m s c, (Value.res_main_v15 V0 : FVec Ideal S64x49x96 .f32) (ix3 m s c) = (center (Y m) c s : EReal)) (t : Fin 3136) (j : Fin 48) :
    (concatenate S3136x49 1 [⟨S3136x48, (shapeCast _ (extractStridedSlice S64x49x48 ![0, 0, 48] (Value.res_main_v15 V0) slices_S64x49x96_S64x49x48_0_0_48) shapeCasts_S64x49x48_S3136x48)⟩, ⟨S3136x1, (broadcastInDim S3136x1 ![] bcast_S_S3136x1 (constant S_ .f32 0x3F800000#32))⟩] concatenates_S3136x48_S3136x1_S3136x49_d1 : FVec Ideal S3136x49 .f32)
      (ix2 t ⟨j.val, by omega⟩) = (center (Y (groupOfRow t)) (hi j) (cellOfRow t) : EReal) := by
  generalize (Value.res_main_v15 V0 : FVec Ideal S64x49x96 .f32) = y at *
  clean_types
  pointwise
  exact h15 _ _ _

/-- The last entry of the table's rows before the pixels. -/
theorem table_last (t : Fin 3136) :
    (concatenate S3136x49 1 [⟨S3136x48, (shapeCast _ (extractStridedSlice S64x49x48 ![0, 0, 48] (Value.res_main_v15 V0) slices_S64x49x96_S64x49x48_0_0_48) shapeCasts_S64x49x48_S3136x48)⟩, ⟨S3136x1, (broadcastInDim S3136x1 ![] bcast_S_S3136x1 (constant S_ .f32 0x3F800000#32))⟩] concatenates_S3136x48_S3136x1_S3136x49_d1 : FVec Ideal S3136x49 .f32)
      (ix2 t ⟨48, by omega⟩) = ((1 : ℝ) : EReal) := by
  generalize (Value.res_main_v15 V0 : FVec Ideal S64x49x96 .f32) = y at *
  clean_types
  pointwise
  rfl

/-- The largest similarity, in every column. -/
theorem weight_at (B : Fin 200704 → ℝ) (h56 : ∀ r, (Value.res_main_v56 V0 : FVec Ideal S200704 .f32) (ix1 r) = (B r : EReal)) (r : Fin 200704) (j : Fin 49) :
    (broadcastInDim S200704x49 ![0, 1] bcast_S200704x1_S200704x49_0_1 (broadcastInDim S200704x1 ![0] bcast_S200704_S200704x1_0 (Value.res_main_v56 V0)) : FVec Ideal S200704x49 .f32)
      (ix2 r j) = (B r : EReal) := by
  generalize (Value.res_main_v56 V0 : FVec Ideal S200704 .f32) = z at *
  clean_types
  pointwise [h56]

/-- The carried channels, by flat row. -/
theorem carried_at (Y : Fin 64 → Fin 96 → Fin 3136 → ℝ)
    (h13 : ∀ m l c, (Value.res_main_v13 V0 : FVec Ideal S64x3136x96 .f32) (ix3 m l c) = (Y m c l : EReal)) (r : Fin 200704) (j : Fin 48) :
    (shapeCast S200704x48 (extractStridedSlice S64x3136x48 ![0, 0, 48] (Value.res_main_v13 V0) slices_S64x3136x96_S64x3136x48_0_0_48) shapeCasts_S64x3136x48_S200704x48 : FVec Ideal S200704x48 .f32)
      (ix2 r j) = ((Y (groupOf r) (hi j) (pointAt r) : ℝ) : EReal) := by
  generalize (Value.res_main_v13 V0 : FVec Ideal S64x3136x96 .f32) = x at *
  clean_types
  pointwise
  exact h13 _ _ _

/-- Rows of 48 entries and one more, at one of the 48. -/
theorem joined_at (x : FVec Ideal S200704x48 .f32) (o : FVec Ideal S200704x1 .f32) (r : Fin 200704) (j : Fin 48) :
    (concatenate S200704x49 1 [⟨S200704x48, x⟩, ⟨S200704x1, o⟩] concatenates_S200704x48_S200704x1_S200704x49_d1 : FVec Ideal S200704x49 .f32)
      (ix2 r ⟨j.val, by omega⟩) = x (ix2 r j) := by
  pointwise

/-- The same at the last. -/
theorem joined_last (x : FVec Ideal S200704x48 .f32) (o : FVec Ideal S200704x1 .f32) (r : Fin 200704) :
    (concatenate S200704x49 1 [⟨S200704x48, x⟩, ⟨S200704x1, o⟩] concatenates_S200704x48_S200704x1_S200704x49_d1 : FVec Ideal S200704x49 .f32)
      (ix2 r ⟨48, by omega⟩) = o (ix2 r 0) := by
  pointwise

/-- The weight of a pixel itself. -/
theorem one_at (r : Fin 200704) :
    (broadcastInDim S200704x1 ![] bcast_S_S200704x1 (constant S_ .f32 0x3F800000#32) : FVec Ideal S200704x1 .f32) (ix2 r 0) = ((1 : ℝ) : EReal) := by
  pointwise
  rfl

/-- An entry of the table after the pixels: what it was, and the pixels of the row's cell. -/
theorem v73_of (p : Fin 64 → Fin 3136 → Fin 49) (e : ℝ) (f : Fin 64 → Fin 3136 → ℝ) (t : Fin 3136) (y : Fin 49)
    (h57 : ∀ r, (Value.res_main_v57 V0 : IVec S200704 32) (ix1 r) = BitVec.ofNat 32 ((p (groupOf r) (pointAt r)).val + 49 * (groupOf r).val))
    (hx : (concatenate S3136x49 1 [⟨S3136x48, (shapeCast _ (extractStridedSlice S64x49x48 ![0, 0, 48] (Value.res_main_v15 V0) slices_S64x49x96_S64x49x48_0_0_48) shapeCasts_S64x49x48_S3136x48)⟩, ⟨S3136x1, (broadcastInDim S3136x1 ![] bcast_S_S3136x1 (constant S_ .f32 0x3F800000#32))⟩] concatenates_S3136x48_S3136x1_S3136x49_d1 : FVec Ideal S3136x49 .f32) (ix2 t y) = (e : EReal))
    (hu : ∀ r, (mulf (broadcastInDim S200704x49 ![0, 1] bcast_S200704x1_S200704x49_0_1 (broadcastInDim S200704x1 ![0] bcast_S200704_S200704x1_0 (Value.res_main_v56 V0))) (concatenate S200704x49 1 [⟨S200704x48, (shapeCast _ (extractStridedSlice S64x3136x48 ![0, 0, 48] (Value.res_main_v13 V0) slices_S64x3136x96_S64x3136x48_0_0_48) shapeCasts_S64x3136x48_S200704x48)⟩, ⟨S200704x1, (broadcastInDim S200704x1 ![] bcast_S_S200704x1 (constant S_ .f32 0x3F800000#32))⟩] concatenates_S200704x48_S200704x1_S200704x49_d1) : FVec Ideal S200704x49 .f32) (ix2 r y) = (f (groupOf r) (pointAt r) : EReal)) :
    (Value.res_main_v73 V0 : FVec Ideal S3136x49 .f32) (ix2 t y)
      = ((e + ∑ l, if p (groupOfRow t) l = cellOfRow t then f (groupOfRow t) l else 0 : ℝ) : EReal) := by
  have hN : ∀ r, (p (groupOf r) (pointAt r)).val + 49 * (groupOf r).val < 2 ^ 31 := fun r => by omega
  have hi := index_at _ hN h57
  unfold Value.res_main_v73 Host.scatterAdd
  rw [Ideal.hostScatterAdd_def, scatter_rows (nb := 3136) (B := 49) (n := 200704) scatter_S3136x49_S200704x1_S200704x49_1_0_0_1 rfl rfl rfl rfl]
  refine (congrArg₂ (· + ·) hx (Finset.sum_congr rfl fun r _ => (if_congr (?_ : _ ↔
      (((p (groupOf r) (pointAt r)).val + 49 * (groupOf r).val : ℕ) : Int) = (t.val : Int)) (hu r) EReal.coe_zero.symm).trans
    (?_ : _ = ((if (((p (groupOf r) (pointAt r)).val + 49 * (groupOf r).val : ℕ) : Int) = (t.val : Int)
      then f (groupOf r) (pointAt r) else 0 : ℝ) : EReal)))).trans ?_
  · rw [hi, StableHlo.Predicate.toInt_ofNat_small _ (hN r)]
  · split <;> rfl
  · refine (congrArg ((e : EReal) + ·) ((coe_sum _ _).trans (congrArg _ (sum_row p f t)))).trans (EReal.coe_add _ _).symm

/-- The table at a carried channel: a cell's mean and its pixels', by weight. -/
theorem v73_at (Y : Fin 64 → Fin 96 → Fin 3136 → ℝ) (a b : EReal)
    (h13 : ∀ m l c, (Value.res_main_v13 V0 : FVec Ideal S64x3136x96 .f32) (ix3 m l c) = (Y m c l : EReal))
    (h15 : ∀ m s c, (Value.res_main_v15 V0 : FVec Ideal S64x49x96 .f32) (ix3 m s c) = (center (Y m) c s : EReal))
    (h56 : ∀ r, (Value.res_main_v56 V0 : FVec Ideal S200704 .f32) (ix1 r) = (best a b (Y (groupOf r)) (pointAt r) : EReal))
    (h57 : ∀ r, (Value.res_main_v57 V0 : IVec S200704 32) (ix1 r)
      = BitVec.ofNat 32 ((pick a b (Y (groupOf r)) (pointAt r)).val + 49 * (groupOf r).val)) (t : Fin 3136) (j : Fin 48) :
    (Value.res_main_v73 V0 : FVec Ideal S3136x49 .f32) (ix2 t ⟨j.val, by omega⟩)
      = ((center (Y (groupOfRow t)) (hi j) (cellOfRow t)
          + ∑ l, Y (groupOfRow t) (hi j) l * share a b (Y (groupOfRow t)) (cellOfRow t) l : ℝ) : EReal) := by
  refine (v73_of (fun m l => pick a b (Y m) l) (center (Y (groupOfRow t)) (hi j) (cellOfRow t))
    (fun m l => best a b (Y m) l * Y m (hi j) l) t _ h57 (table_at Y h15 t j) fun r => ?_).trans ?_
  · rw [mulf_apply, weight_at _ h56 r ⟨j.val, by omega⟩, joined_at, carried_at Y h13 r j, EReal.coe_mul]
    rfl
  · refine congrArg _ (congrArg _ (Finset.sum_congr rfl fun l _ => ?_))
    unfold share
    split <;> ring

/-- The table's last entry: one and the weights of a cell's pixels. -/
theorem v73_last (Y : Fin 64 → Fin 96 → Fin 3136 → ℝ) (a b : EReal)
    (h56 : ∀ r, (Value.res_main_v56 V0 : FVec Ideal S200704 .f32) (ix1 r) = (best a b (Y (groupOf r)) (pointAt r) : EReal))
    (h57 : ∀ r, (Value.res_main_v57 V0 : IVec S200704 32) (ix1 r)
      = BitVec.ofNat 32 ((pick a b (Y (groupOf r)) (pointAt r)).val + 49 * (groupOf r).val)) (t : Fin 3136) :
    (Value.res_main_v73 V0 : FVec Ideal S3136x49 .f32) (ix2 t ⟨48, by omega⟩)
      = ((1 + ∑ l, share a b (Y (groupOfRow t)) (cellOfRow t) l : ℝ) : EReal) := by
  refine (v73_of (fun m l => pick a b (Y m) l) 1 (fun m l => best a b (Y m) l) t _ h57 (table_last t) fun r => ?_).trans rfl
  rw [mulf_apply, weight_at _ h56 r ⟨48, by omega⟩, joined_last, one_at, EReal.coe_one]
  exact mul_one _

end Cert.ReferenceIdeal.Value

end
-- ==== Proof.RefMerge.lean ====
/- The reference's clustered image after the second projection: every pixel reads its cell's new value, by weight. -/
module

public import proofs.«01_k».proof.Proof.RefMove

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.Block

variable {V0 : Valuation τ sig (Elt Ideal)} {X : Fin 2 → Fin 384 → Fin 112 → Fin 112 → ℝ}
    {pw : Fin 768 → Fin 384 → ℝ} {pb : Fin 768 → ℝ} {mw : Fin 384 → Fin 384 → ℝ} {mb gw gb : Fin 384 → ℝ}
    {w0 : Fin 768 → Fin 768 → ℝ} {b0 : Fin 768 → ℝ} {w1 : Fin 384 → Fin 768 → ℝ} {b1 : Fin 384 → ℝ}

/-- The first 48 entries of a row. -/
theorem front_at (x : FVec Ideal S3136x49 .f32) (t : Fin 3136) (j : Fin 48) :
    (extractStridedSlice S3136x48 ![0, 0] x slices_S3136x49_S3136x48_0_0 : FVec Ideal S3136x48 .f32) (ix2 t j) = x (ix2 t ⟨j.val, by omega⟩) := by
  pointwise

/-- The last entry of a row, in every column. -/
theorem back_at (x : FVec Ideal S3136x49 .f32) (t : Fin 3136) (j : Fin 48) :
    (broadcastInDim S3136x48 ![0, 1] bcast_S3136x1_S3136x48_0_1 (extractStridedSlice S3136x1 ![0, 48] x slices_S3136x49_S3136x1_0_48) : FVec Ideal S3136x48 .f32) (ix2 t j)
      = x (ix2 t ⟨48, by omega⟩) := by
  pointwise

/-- The cells' new values, in the table's rows. -/
theorem moved_at (Y : Fin 64 → Fin 96 → Fin 3136 → ℝ) (a b : EReal)
    (h73 : ∀ t (j : Fin 48), (Value.res_main_v73 V0 : FVec Ideal S3136x49 .f32) (ix2 t ⟨j.val, by omega⟩)
      = ((center (Y (groupOfRow t)) (hi j) (cellOfRow t)
          + ∑ l, Y (groupOfRow t) (hi j) l * share a b (Y (groupOfRow t)) (cellOfRow t) l : ℝ) : EReal))
    (hlast : ∀ t, (Value.res_main_v73 V0 : FVec Ideal S3136x49 .f32) (ix2 t ⟨48, by omega⟩)
      = ((1 + ∑ l, share a b (Y (groupOfRow t)) (cellOfRow t) l : ℝ) : EReal)) (t : Fin 3136) (j : Fin 48) :
    ((Host.divf (extractStridedSlice S3136x48 ![0, 0] (Value.res_main_v73 V0) slices_S3136x49_S3136x48_0_0) (broadcastInDim S3136x48 ![0, 1] bcast_S3136x1_S3136x48_0_1 (extractStridedSlice S3136x1 ![0, 48] (Value.res_main_v73 V0) slices_S3136x49_S3136x1_0_48))) : FVec Ideal S3136x48 .f32) (ix2 t j)
      = (moved a b (Y (groupOfRow t)) j (cellOfRow t) : EReal) := by
  rw [Host.divf_apply, front_at, back_at, h73, hlast]
  exact div_coe_coe _ (weight_pos a b _ _).ne'

/-- The best similarity, in every column. -/
theorem factor_at (B : Fin 200704 → ℝ) (h56 : ∀ r, (Value.res_main_v56 V0 : FVec Ideal S200704 .f32) (ix1 r) = (B r : EReal)) (r : Fin 200704) (j : Fin 48) :
    (broadcastInDim S200704x48 ![0, 1] bcast_S200704x1_S200704x48_0_1 (broadcastInDim S200704x1 ![0] bcast_S200704_S200704x1_0 (Value.res_main_v56 V0)) : FVec Ideal S200704x48 .f32)
      (ix2 r j) = (B r : EReal) := by
  generalize (Value.res_main_v56 V0 : FVec Ideal S200704 .f32) = z at *
  clean_types
  pointwise [h56]

/-- A row read by its index word. -/
theorem gather_at (x : FVec Ideal S3136x48 .f32) (idx : IVec S200704x1 32) (r : Fin 200704) (j : Fin 48) (t : Fin 3136)
    (h : idx (ix2 r 0) = BitVec.ofNat 32 t.val) :
    Host.gather gather_S3136x48_S200704x1_S200704x48_1_0_n_n_0_1_148 x idx (ix2 r j) = x (ix2 t j) :=
  Routing.gather_row (nb := 3136) (B := 48) (n := 200704) gather_S3136x48_S200704x1_S200704x48_1_0_n_n_0_1_148
    rfl rfl rfl rfl rfl x idx r j t h (by norm_num)

/-- What every pixel reads, by flat row. -/
theorem spread_at (Y : Fin 64 → Fin 96 → Fin 3136 → ℝ) (a b : EReal)
    (h73 : ∀ t (j : Fin 48), (Value.res_main_v73 V0 : FVec Ideal S3136x49 .f32) (ix2 t ⟨j.val, by omega⟩)
      = ((center (Y (groupOfRow t)) (hi j) (cellOfRow t)
          + ∑ l, Y (groupOfRow t) (hi j) l * share a b (Y (groupOfRow t)) (cellOfRow t) l : ℝ) : EReal))
    (hlast : ∀ t, (Value.res_main_v73 V0 : FVec Ideal S3136x49 .f32) (ix2 t ⟨48, by omega⟩)
      = ((1 + ∑ l, share a b (Y (groupOfRow t)) (cellOfRow t) l : ℝ) : EReal))
    (h56 : ∀ r, (Value.res_main_v56 V0 : FVec Ideal S200704 .f32) (ix1 r) = (best a b (Y (groupOf r)) (pointAt r) : EReal))
    (h57 : ∀ r, (Value.res_main_v57 V0 : IVec S200704 32) (ix1 r)
      = BitVec.ofNat 32 ((pick a b (Y (groupOf r)) (pointAt r)).val + 49 * (groupOf r).val)) (r : Fin 200704) (j : Fin 48) :
    ((mulf (broadcastInDim S200704x48 ![0, 1] bcast_S200704x1_S200704x48_0_1 (broadcastInDim S200704x1 ![0] bcast_S200704_S200704x1_0 (Value.res_main_v56 V0))) (Host.gather gather_S3136x48_S200704x1_S200704x48_1_0_n_n_0_1_148 (Host.divf (extractStridedSlice S3136x48 ![0, 0] (Value.res_main_v73 V0) slices_S3136x49_S3136x48_0_0) (broadcastInDim S3136x48 ![0, 1] bcast_S3136x1_S3136x48_0_1 (extractStridedSlice S3136x1 ![0, 48] (Value.res_main_v73 V0) slices_S3136x49_S3136x1_0_48))) (broadcastInDim S200704x1 ![0] bcast_S200704_S200704x1_0 (select (cmpi .slt (Value.res_main_v57 V0) (broadcastInDim S200704 ![] bcast_S_S200704 (constantI S_ 32 0#32))) (addi (Value.res_main_v57 V0) (broadcastInDim S200704 ![] bcast_S_S200704 (constantI S_ 32 3136#32))) (Value.res_main_v57 V0))))) : FVec Ideal S200704x48 .f32) (ix2 r j) = (spread a b (Y (groupOf r)) j (pointAt r) : EReal) := by
  have hN : ∀ r, (pick a b (Y (groupOf r)) (pointAt r)).val + 49 * (groupOf r).val < 3136 := fun r => by omega
  have hi := index_at _ (fun r => (hN r).trans (by norm_num)) h57 r
  rw [mulf_apply, factor_at _ h56 r j]
  rw [gather_at _ _ r j ⟨_, hN r⟩ hi, moved_at Y a b h73 hlast]
  have hg : groupOfRow ⟨_, hN r⟩ = groupOf r := Fin.ext (by
    have := (pick a b (Y (groupOf r)) (pointAt r)).isLt
    simp only [groupOfRow]; omega)
  have hc : cellOfRow ⟨_, hN r⟩ = pick a b (Y (groupOf r)) (pointAt r) := Fin.ext (by
    have := (pick a b (Y (groupOf r)) (pointAt r)).isLt
    simp only [cellOfRow]; omega)
  rw [hg, hc, spread_eq, EReal.coe_mul]
  exact mul_comm _ _

/-- The second projection of the clustered image. -/
theorem v95_at (A : Args V0 X pw pb mw mb gw gb w0 b0 w1 b1) (a b : EReal)
    (hz : ∀ r j, ((mulf (broadcastInDim S200704x48 ![0, 1] bcast_S200704x1_S200704x48_0_1 (broadcastInDim S200704x1 ![0] bcast_S200704_S200704x1_0 (Value.res_main_v56 V0))) (Host.gather gather_S3136x48_S200704x1_S200704x48_1_0_n_n_0_1_148 (Host.divf (extractStridedSlice S3136x48 ![0, 0] (Value.res_main_v73 V0) slices_S3136x49_S3136x48_0_0) (broadcastInDim S3136x48 ![0, 1] bcast_S3136x1_S3136x48_0_1 (extractStridedSlice S3136x1 ![0, 48] (Value.res_main_v73 V0) slices_S3136x49_S3136x1_0_48))) (broadcastInDim S200704x1 ![0] bcast_S200704_S200704x1_0 (select (cmpi .slt (Value.res_main_v57 V0) (broadcastInDim S200704 ![] bcast_S_S200704 (constantI S_ 32 0#32))) (addi (Value.res_main_v57 V0) (broadcastInDim S200704 ![] bcast_S_S200704 (constantI S_ 32 3136#32))) (Value.res_main_v57 V0))))) : FVec Ideal S200704x48 .f32) (ix2 r j) = (spread a b (projG pw pb X (groupOf r)) j (pointAt r) : EReal))
    (n : Fin 2) (o : Fin 384) (p q : Fin 112) :
    (Value.res_main_v95 V0 : FVec Ideal S2x384x112x112 .f32) (ix4 n o p q)
      = (merged a b pw pb mw mb (tiles X n (tileOf p) (tileOf q)) o (pixelOf p q) : EReal) := by
  have hw := A.mw
  have hb := A.mb
  unfold Value.res_main_v95
  generalize ((mulf (broadcastInDim S200704x48 ![0, 1] bcast_S200704x1_S200704x48_0_1 (broadcastInDim S200704x1 ![0] bcast_S200704_S200704x1_0 (Value.res_main_v56 V0))) (Host.gather gather_S3136x48_S200704x1_S200704x48_1_0_n_n_0_1_148 (Host.divf (extractStridedSlice S3136x48 ![0, 0] (Value.res_main_v73 V0) slices_S3136x49_S3136x48_0_0) (broadcastInDim S3136x48 ![0, 1] bcast_S3136x1_S3136x48_0_1 (extractStridedSlice S3136x1 ![0, 48] (Value.res_main_v73 V0) slices_S3136x49_S3136x1_0_48))) (broadcastInDim S200704x1 ![0] bcast_S200704_S200704x1_0 (select (cmpi .slt (Value.res_main_v57 V0) (broadcastInDim S200704 ![] bcast_S_S200704 (constantI S_ 32 0#32))) (addi (Value.res_main_v57 V0) (broadcastInDim S200704 ![] bcast_S_S200704 (constantI S_ 32 3136#32))) (Value.res_main_v57 V0))))) : FVec Ideal S200704x48 .f32) = z at *
  generalize (V0 (Proc.devRef .tc main_arg3) : FVec Ideal S384x384 .f32) = w at *
  generalize (V0 (Proc.devRef .tc main_arg4) : FVec Ideal S384 .f32) = v at *
  clear A
  clean_types
  pointwise [hw, hb]
  simp only [hz, ← EReal.coe_mul, coe_sum, ← EReal.coe_add]
  have hr : ∀ k : Fin 384, groupOf ⟨n.val * 100352 + k.val / 48 * 12544 + p.val / 56 * 6272 + q.val / 56 * 3136 + p.val % 56 * 56 + q.val % 56, by omega⟩
        = ⟨n.val * 32 + k.val / 48 * 4 + p.val / 56 * 2 + q.val / 56, by omega⟩
      ∧ pointAt ⟨n.val * 100352 + k.val / 48 * 12544 + p.val / 56 * 6272 + q.val / 56 * 3136 + p.val % 56 * 56 + q.val % 56, by omega⟩
        = pixelOf p q := fun k =>
    ⟨Fin.ext (by simp only [groupOf]; omega), Fin.ext (by simp only [pointAt, pixelOf]; omega)⟩
  refine congrArg _ (congrArg (· + mb o) (Finset.sum_congr rfl fun k _ => congrArg (mw o k * ·) ?_))
  rw [(hr k).1, (hr k).2]
  have hp : projG pw pb X ⟨n.val * 32 + k.val / 48 * 4 + p.val / 56 * 2 + q.val / 56, by omega⟩
      = proj pw pb (tiles X n (tileOf p) (tileOf q)) (grp k) := by
    unfold projG
    rw [show imgG ⟨n.val * 32 + k.val / 48 * 4 + p.val / 56 * 2 + q.val / 56, by omega⟩ = n from Fin.ext (by simp only [imgG]; omega),
      show rowG ⟨n.val * 32 + k.val / 48 * 4 + p.val / 56 * 2 + q.val / 56, by omega⟩ = tileOf p from Fin.ext (by simp only [rowG, tileOf]; omega),
      show colG ⟨n.val * 32 + k.val / 48 * 4 + p.val / 56 * 2 + q.val / 56, by omega⟩ = tileOf q from Fin.ext (by simp only [colG, tileOf]; omega),
      show chnG ⟨n.val * 32 + k.val / 48 * 4 + p.val / 56 * 2 + q.val / 56, by omega⟩ = grp k from Fin.ext (by simp only [chnG, grp]; omega)]
  rw [hp]
  rfl

end Cert.ReferenceIdeal.Value

end
-- ==== Proof.RefNorm.lean ====
/- The reference's normalisation of an image, for any array of real numbers. -/
module

public import proofs.«01_k».proof.Proof.RefProject

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.Block

/-- Rows and columns of the input, as tiles and pixels. -/
def pixelsEquiv : Fin 112 × Fin 112 ≃ Fin 2 × Fin 2 × Fin 3136 where
  toFun k := (tileOf k.1, tileOf k.2, pixelOf k.1 k.2)
  invFun k := (rowAt k.1 k.2.2, colAt k.2.1 k.2.2)
  left_inv k := Prod.ext (rowAt_of k.1 k.2) (colAt_of k.1 k.2)
  right_inv k := by
    obtain ⟨h, w, l⟩ := k
    refine Prod.ext (Fin.ext ?_) (Prod.ext (Fin.ext ?_) (Fin.ext ?_))
    all_goals simp only [tileOf, pixelOf, rowAt, colAt]; omega

/-- A sum over an image's channels, rows and columns is the sum over its tiles' channels and pixels. -/
theorem total_eq (f : Fin 2 → Fin 2 → Fin 384 → Fin 3136 → ℝ) :
    (∑ o, ∑ p, ∑ q, f (tileOf p) (tileOf q) o (pixelOf p q)) = total f := by
  have h : ∀ o, (∑ p, ∑ q, f (tileOf p) (tileOf q) o (pixelOf p q)) = ∑ h, ∑ w, ∑ l, f h w o l := fun o => by
    rw [← Fintype.sum_prod_type']
    refine (Fintype.sum_equiv pixelsEquiv _ (fun k : Fin 2 × Fin 2 × Fin 3136 => f k.1 k.2.1 o k.2.2) (fun _ => rfl)).trans ?_
    simp only [Fintype.sum_prod_type]
  simp only [h, total]
  rw [Finset.sum_comm]
  exact Finset.sum_congr rfl fun _ _ => Finset.sum_comm

variable {z d : FVec Ideal S2x384x112x112 .f32} {c : FVec Ideal S_ .f32} {T : Fin 2 → Fin 2 → Fin 2 → Fin 384 → Fin 3136 → ℝ}

/-- The distance from the mean. -/
theorem diff_at (hz : ∀ n o p q, z (ix4 n o p q) = (T n (tileOf p) (tileOf q) o (pixelOf p q) : EReal))
    (n : Fin 2) (o : Fin 384) (p q : Fin 112) :
    ((subf z (broadcastInDim S2x384x112x112 ![0, 1, 2, 3] bcast_S2x1x1x1_S2x384x112x112_0_1_2_3 (Host.divf (broadcastInDim S2x1x1x1 ![0] bcast_S2_S2x1x1x1_0 (Host.reduceAdd z (constant S_ .f32 0x00000000#32) reducesTo_S2x384x112x112_S2_d1_2_3 h_S_)) (broadcastInDim S2x1x1x1 ![] bcast_S_S2x1x1x1 (constant S_ .f32 0x4A930000#32))))) : FVec Ideal S2x384x112x112 .f32) (ix4 n o p q)
      = ((T n (tileOf p) (tileOf q) o (pixelOf p q) - mean (T n) : ℝ) : EReal) := by
  pointwise [sum_image, hz]
  simp only [coe_sum]
  rw [total_eq (T n), ofBits_count, div_coe_coe _ (by norm_num), ← EReal.coe_sub]
  rfl

/-- The normalised image. -/
theorem normed_at (hz : ∀ n o p q, z (ix4 n o p q) = (T n (tileOf p) (tileOf q) o (pixelOf p q) : EReal))
    (hd : ∀ n o p q, d (ix4 n o p q) = ((T n (tileOf p) (tileOf q) o (pixelOf p q) - mean (T n) : ℝ) : EReal))
    (hc : c ix0 = ((4816896 : ℝ) : EReal)) (n : Fin 2) (o : Fin 384) (p q : Fin 112) :
    ((Host.divf (subf z (broadcastInDim S2x384x112x112 ![0, 1, 2, 3] bcast_S2x1x1x1_S2x384x112x112_0_1_2_3 (Host.divf (broadcastInDim S2x1x1x1 ![0] bcast_S2_S2x1x1x1_0 (Host.reduceAdd z (constant S_ .f32 0x00000000#32) reducesTo_S2x384x112x112_S2_d1_2_3 h_S_)) (broadcastInDim S2x1x1x1 ![] bcast_S_S2x1x1x1 (constant S_ .f32 0x4A930000#32))))) (broadcastInDim S2x384x112x112 ![0, 1, 2, 3] bcast_S2x1x1x1_S2x384x112x112_0_1_2_3 (Host.sqrt (addf (select (broadcastInDim S2x1x1x1 ![] bcast_S_S2x1x1x1 (cmpf .ogt c (constant S_ .f32 0x00000000#32))) (Host.divf (broadcastInDim S2x1x1x1 ![0] bcast_S2_S2x1x1x1_0 (Host.reduceAdd (mulf d d) (constant S_ .f32 0x00000000#32) reducesTo_S2x384x112x112_S2_d1_2_3 h_S_)) (broadcastInDim S2x1x1x1 ![] bcast_S_S2x1x1x1 c)) (broadcastInDim S2x1x1x1 ![] bcast_S_S2x1x1x1 (id (constant S_ .f32 0x7FC00000#32)))) (broadcastInDim S2x1x1x1 ![] bcast_S_S2x1x1x1 (constant S_ .f32 0x3727C5AC#32)))))) : FVec Ideal S2x384x112x112 .f32) (ix4 n o p q)
      = (normed (T n) (tileOf p) (tileOf q) o (pixelOf p q) : EReal) := by
  have he := diff_at hz n o p q
  rw [Host.divf_apply, he]
  pointwise [sum_image, hd, hc]
  simp only [← EReal.coe_mul, coe_sum]
  rw [total_eq (fun h w o l => (T n h w o l - mean (T n)) * (T n h w o l - mean (T n))),
    if_pos (EReal.coe_pos.mpr (by norm_num)), div_coe_coe _ (by norm_num), ofBits_varFloor]
  change Ideal.div _ (Ideal.sqrt ((variance (T n) : EReal) + _)) = _
  rw [← EReal.coe_add, sqrt_coe_nonneg (std_pos _).le, div_coe_coe _ (Real.sqrt_pos.mpr (std_pos _)).ne']
  rfl

end Cert.ReferenceIdeal.Value

end
-- ==== Proof.RefTail.lean ====
/- The reference's two-layer network and its end: the second normalisation and the sum with the input. -/
module

public import proofs.«01_k».proof.Proof.RefNorm

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.Block

variable {V0 : Valuation τ sig (Elt Ideal)} {X : Fin 2 → Fin 384 → Fin 112 → Fin 112 → ℝ}
    {pw : Fin 768 → Fin 384 → ℝ} {pb : Fin 768 → ℝ} {mw : Fin 384 → Fin 384 → ℝ} {mb gw gb : Fin 384 → ℝ}
    {w0 : Fin 768 → Fin 768 → ℝ} {b0 : Fin 768 → ℝ} {w1 : Fin 384 → Fin 768 → ℝ} {b1 : Fin 384 → ℝ}
    {T : Fin 2 → Fin 2 → Fin 2 → Fin 384 → Fin 3136 → ℝ}

/-- The number of entries of an image. -/
theorem count1_at : (Value.res_main_call3_v8 V0 : FVec Ideal S_ .f32) ix0 = ((4816896 : ℝ) : EReal) := by
  unfold Value.res_main_call3_v8
  clean_types
  pointwise
  rw [ofBits_count]
  change ((4816896 : ℝ) : EReal) - (((0#32 : BitVec 32).toInt : ℝ) : EReal) = _
  simp

/-- The number of entries of an image, which the second variance divides by. -/
theorem count2_at : (Value.res_main_call4_v8 V0 : FVec Ideal S_ .f32) ix0 = ((4816896 : ℝ) : EReal) := count1_at (V0 := V0)

/-- The first layer. -/
theorem v120_at (A : Args V0 X pw pb mw mb gw gb w0 b0 w1 b1)
    (hu : ∀ n o p q, ((Host.divf (subf (Value.res_main_v95 V0) (broadcastInDim S2x384x112x112 ![0, 1, 2, 3] bcast_S2x1x1x1_S2x384x112x112_0_1_2_3 (Host.divf (broadcastInDim S2x1x1x1 ![0] bcast_S2_S2x1x1x1_0 (Host.reduceAdd (Value.res_main_v95 V0) (constant S_ .f32 0x00000000#32) reducesTo_S2x384x112x112_S2_d1_2_3 h_S_)) (broadcastInDim S2x1x1x1 ![] bcast_S_S2x1x1x1 (constant S_ .f32 0x4A930000#32))))) (broadcastInDim S2x384x112x112 ![0, 1, 2, 3] bcast_S2x1x1x1_S2x384x112x112_0_1_2_3 (Host.sqrt (addf (select (broadcastInDim S2x1x1x1 ![] bcast_S_S2x1x1x1 (cmpf .ogt (Value.res_main_call3_v8 V0) (constant S_ .f32 0x00000000#32))) (Host.divf (broadcastInDim S2x1x1x1 ![0] bcast_S2_S2x1x1x1_0 (Host.reduceAdd (mulf (Value.res_main_call3_v5 V0) (Value.res_main_call3_v5 V0)) (constant S_ .f32 0x00000000#32) reducesTo_S2x384x112x112_S2_d1_2_3 h_S_)) (broadcastInDim S2x1x1x1 ![] bcast_S_S2x1x1x1 (Value.res_main_call3_v8 V0))) (broadcastInDim S2x1x1x1 ![] bcast_S_S2x1x1x1 (id (constant S_ .f32 0x7FC00000#32)))) (broadcastInDim S2x1x1x1 ![] bcast_S_S2x1x1x1 (constant S_ .f32 0x3727C5AC#32)))))) : FVec Ideal S2x384x112x112 .f32) (ix4 n o p q) = (normed (T n) (tileOf p) (tileOf q) o (pixelOf p q) : EReal))
    (n : Fin 2) (p q : Fin 112) (j : Fin 768) :
    (Value.res_main_v120 V0 : FVec Ideal S2x112x112x768 .f32) (ix4 n p q j)
      = (hidden w0 b0 (tiles X n (tileOf p) (tileOf q)) (fun k l => normed (T n) (tileOf p) (tileOf q) k l * gw k + gb k) j (pixelOf p q) : EReal) := by
  have hx := A.x
  have hgw := A.gw
  have hgb := A.gb
  have hw := A.w0
  have hb := A.b0
  unfold Value.res_main_v120
  generalize ((Host.divf (subf (Value.res_main_v95 V0) (broadcastInDim S2x384x112x112 ![0, 1, 2, 3] bcast_S2x1x1x1_S2x384x112x112_0_1_2_3 (Host.divf (broadcastInDim S2x1x1x1 ![0] bcast_S2_S2x1x1x1_0 (Host.reduceAdd (Value.res_main_v95 V0) (constant S_ .f32 0x00000000#32) reducesTo_S2x384x112x112_S2_d1_2_3 h_S_)) (broadcastInDim S2x1x1x1 ![] bcast_S_S2x1x1x1 (constant S_ .f32 0x4A930000#32))))) (broadcastInDim S2x384x112x112 ![0, 1, 2, 3] bcast_S2x1x1x1_S2x384x112x112_0_1_2_3 (Host.sqrt (addf (select (broadcastInDim S2x1x1x1 ![] bcast_S_S2x1x1x1 (cmpf .ogt (Value.res_main_call3_v8 V0) (constant S_ .f32 0x00000000#32))) (Host.divf (broadcastInDim S2x1x1x1 ![0] bcast_S2_S2x1x1x1_0 (Host.reduceAdd (mulf (Value.res_main_call3_v5 V0) (Value.res_main_call3_v5 V0)) (constant S_ .f32 0x00000000#32) reducesTo_S2x384x112x112_S2_d1_2_3 h_S_)) (broadcastInDim S2x1x1x1 ![] bcast_S_S2x1x1x1 (Value.res_main_call3_v8 V0))) (broadcastInDim S2x1x1x1 ![] bcast_S_S2x1x1x1 (id (constant S_ .f32 0x7FC00000#32)))) (broadcastInDim S2x1x1x1 ![] bcast_S_S2x1x1x1 (constant S_ .f32 0x3727C5AC#32)))))) : FVec Ideal S2x384x112x112 .f32) = u at *
  generalize (V0 (Proc.devRef .tc main_arg0) : FVec Ideal S2x384x112x112 .f32) = x at *
  generalize (V0 (Proc.devRef .tc main_arg7) : FVec Ideal S384 .f32) = e at *
  generalize (V0 (Proc.devRef .tc main_arg8) : FVec Ideal S384 .f32) = f at *
  generalize (V0 (Proc.devRef .tc main_arg9) : FVec Ideal S768x768 .f32) = w at *
  generalize (V0 (Proc.devRef .tc main_arg10) : FVec Ideal S768 .f32) = b at *
  clear A
  clean_types
  pointwise [hx, hgw, hgb, hw, hb, hu]
  simp only [← EReal.coe_mul, coe_sum, ← EReal.coe_add]
  refine congrArg _ ?_
  unfold Block.hidden
  simp only [tiles, rowAt_of, colAt_of]
  refine congrArg₂ _ (congrArg₂ _ (Finset.sum_congr rfl fun k _ => mul_comm _ _) (Finset.sum_congr rfl fun k _ => mul_comm _ _)) rfl

/-- The activation as the reference writes it. -/
theorem gelu_erfc (r : ℝ) : Ideal.ofBits .f32 0x3F000000#32 * (r : EReal) * Ideal.erfc (-(r : EReal) * Ideal.ofBits .f32 0x3F3504F3#32) = (gelu r : EReal) := by
  rw [ofBits_half, ofBits_erfScale, neg_mul, Ideal.erfc_neg, ← EReal.coe_mul, ← EReal.coe_mul, erf_coe, ← EReal.coe_one, ← EReal.coe_add, ← EReal.coe_mul]
  rfl

/-- The second layer. -/
theorem v133_at (A : Args V0 X pw pb mw mb gw gb w0 b0 w1 b1) (H : Fin 2 → Fin 2 → Fin 2 → Fin 768 → Fin 3136 → ℝ)
    (hh : ∀ n p q j, (Value.res_main_v120 V0 : FVec Ideal S2x112x112x768 .f32) (ix4 n p q j) = (H n (tileOf p) (tileOf q) j (pixelOf p q) : EReal))
    (n : Fin 2) (o : Fin 384) (p q : Fin 112) :
    (Value.res_main_v133 V0 : FVec Ideal S2x384x112x112 .f32) (ix4 n o p q)
      = ((∑ j, w1 o j * gelu (H n (tileOf p) (tileOf q) j (pixelOf p q)) + b1 o : ℝ) : EReal) := by
  have hw := A.w1
  have hb := A.b1
  unfold Value.res_main_v133
  generalize (Value.res_main_v120 V0 : FVec Ideal S2x112x112x768 .f32) = x at *
  generalize (V0 (Proc.devRef .tc main_arg11) : FVec Ideal S384x768 .f32) = w at *
  generalize (V0 (Proc.devRef .tc main_arg12) : FVec Ideal S384 .f32) = b at *
  clear A
  clean_types
  pointwise [hw, hb, hh]
  simp only [gelu_erfc, ← EReal.coe_mul, coe_sum, ← EReal.coe_add]
  exact congrArg _ (congrArg (· + b1 o) (Finset.sum_congr rfl fun k _ => mul_comm _ _))

/-- The result: the second normalisation, its weight and bias, and the input. -/
theorem result_at (A : Args V0 X pw pb mw mb gw gb w0 b0 w1 b1)
    (hu : ∀ n o p q, ((Host.divf (subf (Value.res_main_v133 V0) (broadcastInDim S2x384x112x112 ![0, 1, 2, 3] bcast_S2x1x1x1_S2x384x112x112_0_1_2_3 (Host.divf (broadcastInDim S2x1x1x1 ![0] bcast_S2_S2x1x1x1_0 (Host.reduceAdd (Value.res_main_v133 V0) (constant S_ .f32 0x00000000#32) reducesTo_S2x384x112x112_S2_d1_2_3 h_S_)) (broadcastInDim S2x1x1x1 ![] bcast_S_S2x1x1x1 (constant S_ .f32 0x4A930000#32))))) (broadcastInDim S2x384x112x112 ![0, 1, 2, 3] bcast_S2x1x1x1_S2x384x112x112_0_1_2_3 (Host.sqrt (addf (select (broadcastInDim S2x1x1x1 ![] bcast_S_S2x1x1x1 (cmpf .ogt (Value.res_main_call4_v8 V0) (constant S_ .f32 0x00000000#32))) (Host.divf (broadcastInDim S2x1x1x1 ![0] bcast_S2_S2x1x1x1_0 (Host.reduceAdd (mulf (Value.res_main_call4_v5 V0) (Value.res_main_call4_v5 V0)) (constant S_ .f32 0x00000000#32) reducesTo_S2x384x112x112_S2_d1_2_3 h_S_)) (broadcastInDim S2x1x1x1 ![] bcast_S_S2x1x1x1 (Value.res_main_call4_v8 V0))) (broadcastInDim S2x1x1x1 ![] bcast_S_S2x1x1x1 (id (constant S_ .f32 0x7FC00000#32)))) (broadcastInDim S2x1x1x1 ![] bcast_S_S2x1x1x1 (constant S_ .f32 0x3727C5AC#32)))))) : FVec Ideal S2x384x112x112 .f32) (ix4 n o p q) = (normed (T n) (tileOf p) (tileOf q) o (pixelOf p q) : EReal))
    (n : Fin 2) (o : Fin 384) (p q : Fin 112) :
    (addf (addf (mulf (Host.divf (subf (Value.res_main_v133 V0) (broadcastInDim S2x384x112x112 ![0, 1, 2, 3] bcast_S2x1x1x1_S2x384x112x112_0_1_2_3 (Host.divf (broadcastInDim S2x1x1x1 ![0] bcast_S2_S2x1x1x1_0 (Host.reduceAdd (Value.res_main_v133 V0) (constant S_ .f32 0x00000000#32) reducesTo_S2x384x112x112_S2_d1_2_3 h_S_)) (broadcastInDim S2x1x1x1 ![] bcast_S_S2x1x1x1 (constant S_ .f32 0x4A930000#32))))) (broadcastInDim S2x384x112x112 ![0, 1, 2, 3] bcast_S2x1x1x1_S2x384x112x112_0_1_2_3 (Host.sqrt (addf (select (broadcastInDim S2x1x1x1 ![] bcast_S_S2x1x1x1 (cmpf .ogt (Value.res_main_call4_v8 V0) (constant S_ .f32 0x00000000#32))) (Host.divf (broadcastInDim S2x1x1x1 ![0] bcast_S2_S2x1x1x1_0 (Host.reduceAdd (mulf (Value.res_main_call4_v5 V0) (Value.res_main_call4_v5 V0)) (constant S_ .f32 0x00000000#32) reducesTo_S2x384x112x112_S2_d1_2_3 h_S_)) (broadcastInDim S2x1x1x1 ![] bcast_S_S2x1x1x1 (Value.res_main_call4_v8 V0))) (broadcastInDim S2x1x1x1 ![] bcast_S_S2x1x1x1 (id (constant S_ .f32 0x7FC00000#32)))) (broadcastInDim S2x1x1x1 ![] bcast_S_S2x1x1x1 (constant S_ .f32 0x3727C5AC#32)))))) (broadcastInDim S2x384x112x112 ![0, 1, 2, 3] bcast_S1x384x1x1_S2x384x112x112_0_1_2_3 (broadcastInDim S1x384x1x1 ![1] bcast_S384_S1x384x1x1_1 (V0 (Proc.devRef .tc main_arg13))))) (broadcastInDim S2x384x112x112 ![0, 1, 2, 3] bcast_S1x384x1x1_S2x384x112x112_0_1_2_3 (broadcastInDim S1x384x1x1 ![1] bcast_S384_S1x384x1x1_1 (V0 (Proc.devRef .tc main_arg14))))) (V0 (Proc.devRef .tc main_arg0)) : FVec Ideal S2x384x112x112 .f32) (ix4 n o p q)
      = (normed (T n) (tileOf p) (tileOf q) o (pixelOf p q) : EReal) * (V0 (Proc.devRef .tc main_arg13) : FVec Ideal S384 .f32) (ix1 o)
        + (V0 (Proc.devRef .tc main_arg14) : FVec Ideal S384 .f32) (ix1 o) + (X n o p q : EReal) := by
  have hx := A.x
  generalize ((Host.divf (subf (Value.res_main_v133 V0) (broadcastInDim S2x384x112x112 ![0, 1, 2, 3] bcast_S2x1x1x1_S2x384x112x112_0_1_2_3 (Host.divf (broadcastInDim S2x1x1x1 ![0] bcast_S2_S2x1x1x1_0 (Host.reduceAdd (Value.res_main_v133 V0) (constant S_ .f32 0x00000000#32) reducesTo_S2x384x112x112_S2_d1_2_3 h_S_)) (broadcastInDim S2x1x1x1 ![] bcast_S_S2x1x1x1 (constant S_ .f32 0x4A930000#32))))) (broadcastInDim S2x384x112x112 ![0, 1, 2, 3] bcast_S2x1x1x1_S2x384x112x112_0_1_2_3 (Host.sqrt (addf (select (broadcastInDim S2x1x1x1 ![] bcast_S_S2x1x1x1 (cmpf .ogt (Value.res_main_call4_v8 V0) (constant S_ .f32 0x00000000#32))) (Host.divf (broadcastInDim S2x1x1x1 ![0] bcast_S2_S2x1x1x1_0 (Host.reduceAdd (mulf (Value.res_main_call4_v5 V0) (Value.res_main_call4_v5 V0)) (constant S_ .f32 0x00000000#32) reducesTo_S2x384x112x112_S2_d1_2_3 h_S_)) (broadcastInDim S2x1x1x1 ![] bcast_S_S2x1x1x1 (Value.res_main_call4_v8 V0))) (broadcastInDim S2x1x1x1 ![] bcast_S_S2x1x1x1 (id (constant S_ .f32 0x7FC00000#32)))) (broadcastInDim S2x1x1x1 ![] bcast_S_S2x1x1x1 (constant S_ .f32 0x3727C5AC#32)))))) : FVec Ideal S2x384x112x112 .f32) = u at *
  generalize (V0 (Proc.devRef .tc main_arg0) : FVec Ideal S2x384x112x112 .f32) = x at *
  generalize (V0 (Proc.devRef .tc main_arg13) : FVec Ideal S384 .f32) = e at *
  generalize (V0 (Proc.devRef .tc main_arg14) : FVec Ideal S384 .f32) = f at *
  clear A
  clean_types
  pointwise [hx, hu]

end Cert.ReferenceIdeal.Value

end
-- ==== Proof.RefValue.lean ====
/- The reference's result, as a formula of its arguments: its steps one after another. -/
module

public import proofs.«01_k».proof.Proof.RefMatch
public import proofs.«01_k».proof.Proof.RefMerge
public import proofs.«01_k».proof.Proof.RefTail

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.Block

variable {V0 : Valuation τ sig (Elt Ideal)} {X : Fin 2 → Fin 384 → Fin 112 → Fin 112 → ℝ}
    {pw : Fin 768 → Fin 384 → ℝ} {pb : Fin 768 → ℝ} {mw : Fin 384 → Fin 384 → ℝ} {mb gw gb : Fin 384 → ℝ}
    {w0 : Fin 768 → Fin 768 → ℝ} {b0 : Fin 768 → ℝ} {w1 : Fin 384 → Fin 768 → ℝ} {b1 : Fin 384 → ℝ}

/-- The clustered and merged tiles the reference normalises first. -/
def mergedOf (V0 : Valuation τ sig (Elt Ideal)) (X : Fin 2 → Fin 384 → Fin 112 → Fin 112 → ℝ)
    (pw : Fin 768 → Fin 384 → ℝ) (pb : Fin 768 → ℝ) (mw : Fin 384 → Fin 384 → ℝ) (mb : Fin 384 → ℝ) (n h w : Fin 2) : Fin 384 → Fin 3136 → ℝ :=
  merged (alphaOf V0) (betaOf V0) pw pb mw mb (tiles X n h w)

/-- The network's result, which the reference normalises second. -/
def networkOf (V0 : Valuation τ sig (Elt Ideal)) (X : Fin 2 → Fin 384 → Fin 112 → Fin 112 → ℝ)
    (pw : Fin 768 → Fin 384 → ℝ) (pb : Fin 768 → ℝ) (mw : Fin 384 → Fin 384 → ℝ) (mb gw gb : Fin 384 → ℝ)
    (w0 : Fin 768 → Fin 768 → ℝ) (b0 : Fin 768 → ℝ) (w1 : Fin 384 → Fin 768 → ℝ) (b1 : Fin 384 → ℝ) (n h w : Fin 2) : Fin 384 → Fin 3136 → ℝ :=
  mlp w0 b0 w1 b1 (tiles X n h w) (fun k l => normed (mergedOf V0 X pw pb mw mb n) h w k l * gw k + gb k)

/-- The value before the first normalisation. -/
theorem merged_at (A : Args V0 X pw pb mw mb gw gb w0 b0 w1 b1) (n : Fin 2) (o : Fin 384) (p q : Fin 112) :
    (Value.res_main_v95 V0 : FVec Ideal S2x384x112x112 .f32) (ix4 n o p q)
      = (mergedOf V0 X pw pb mw mb n (tileOf p) (tileOf q) o (pixelOf p q) : EReal) := by
  have h7 := v7_at A
  have h42 := v42_at _ (v16_at _ h7) (v18_at _ h7)
  have h43 := v43_at _ _ _ h42
  have h56 := v56_at _ _ _ h43
  have h57 := v57_at _ _ _ h42 h43
  exact v95_at A _ _ (spread_at _ _ _ (v73_at _ _ _ (v13_at _ h7) (v15_at _ h7) h56 h57) (v73_last _ _ _ h56 h57) h56 h57) n o p q

/-- The value before the second normalisation. -/
theorem network_at (A : Args V0 X pw pb mw mb gw gb w0 b0 w1 b1) (n : Fin 2) (o : Fin 384) (p q : Fin 112) :
    (Value.res_main_v133 V0 : FVec Ideal S2x384x112x112 .f32) (ix4 n o p q)
      = (networkOf V0 X pw pb mw mb gw gb w0 b0 w1 b1 n (tileOf p) (tileOf q) o (pixelOf p q) : EReal) := by
  have h95 := merged_at A
  have hd : ∀ n o p q, (Value.res_main_call3_v5 V0 : FVec Ideal S2x384x112x112 .f32) (ix4 n o p q) = _ := diff_at h95
  exact v133_at A (fun n h w j l => hidden w0 b0 (tiles X n h w) (fun k l => normed (mergedOf V0 X pw pb mw mb n) h w k l * gw k + gb k) j l)
    (v120_at A (normed_at h95 hd count1_at)) n o p q

/-- The second normalisation of the network's result. -/
theorem second_norm (A : Args V0 X pw pb mw mb gw gb w0 b0 w1 b1) (n : Fin 2) (o : Fin 384) (p q : Fin 112) :
    ((Host.divf (subf (Value.res_main_v133 V0) (broadcastInDim S2x384x112x112 ![0, 1, 2, 3] bcast_S2x1x1x1_S2x384x112x112_0_1_2_3 (Host.divf (broadcastInDim S2x1x1x1 ![0] bcast_S2_S2x1x1x1_0 (Host.reduceAdd (Value.res_main_v133 V0) (constant S_ .f32 0x00000000#32) reducesTo_S2x384x112x112_S2_d1_2_3 h_S_)) (broadcastInDim S2x1x1x1 ![] bcast_S_S2x1x1x1 (constant S_ .f32 0x4A930000#32))))) (broadcastInDim S2x384x112x112 ![0, 1, 2, 3] bcast_S2x1x1x1_S2x384x112x112_0_1_2_3 (Host.sqrt (addf (select (broadcastInDim S2x1x1x1 ![] bcast_S_S2x1x1x1 (cmpf .ogt (Value.res_main_call4_v8 V0) (constant S_ .f32 0x00000000#32))) (Host.divf (broadcastInDim S2x1x1x1 ![0] bcast_S2_S2x1x1x1_0 (Host.reduceAdd (mulf (Value.res_main_call4_v5 V0) (Value.res_main_call4_v5 V0)) (constant S_ .f32 0x00000000#32) reducesTo_S2x384x112x112_S2_d1_2_3 h_S_)) (broadcastInDim S2x1x1x1 ![] bcast_S_S2x1x1x1 (Value.res_main_call4_v8 V0))) (broadcastInDim S2x1x1x1 ![] bcast_S_S2x1x1x1 (id (constant S_ .f32 0x7FC00000#32)))) (broadcastInDim S2x1x1x1 ![] bcast_S_S2x1x1x1 (constant S_ .f32 0x3727C5AC#32)))))) : FVec Ideal S2x384x112x112 .f32) (ix4 n o p q)
      = (normed (networkOf V0 X pw pb mw mb gw gb w0 b0 w1 b1 n) (tileOf p) (tileOf q) o (pixelOf p q) : EReal) := by
  have h133 := network_at A
  have hd : ∀ n o p q, (Value.res_main_call4_v5 V0 : FVec Ideal S2x384x112x112 .f32) (ix4 n o p q) = _ := diff_at h133
  exact normed_at h133 hd count2_at n o p q

end Cert.ReferenceIdeal.Value

end
-- ==== Proof.Equal.lean ====
/- The two results are one: from the same finite inputs the kernel and the reference end with the same array. -/
module

public import proofs.«01_k».proof.Proof.Inputs
public import proofs.«01_k».proof.Proof.KernelRun
public import proofs.«01_k».proof.Proof.KernelValue
public import proofs.«01_k».proof.Proof.RefValue
public import proofs.«01_k».proof.Proof.Gen.ReferenceIdeal.Run

@[expose] public section

set_option maxRecDepth 16384

noncomputable section

open Idealize.ShloMosaic Idealize.ShloMosaic.TcCoe Idealize.SL.Sem

namespace Cert.KernelIdeal.Value

open Cert.KernelIdeal Cert.KernelIdeal.Gen Cert.Block

/-- The kernel's arguments as real numbers, where the precondition holds. -/
theorem args_of_pre (m : (ℓ : Loc nD τ sig) → Buf (Elt Ideal) ℓ) (h : Cert.Pre_KernelIdeal_finite_inputs (hPre_finite_inputs := preFacts) m) (c : Dev nD) :
    ∃ X pw pb mw mb gw gb w0 b0 w1 b1, Args m c X pw pb mw mb gw gb w0 b0 w1 b1 := by
  have F := finite_of_pre m h c
  exact ⟨_, _, _, _, _, _, _, _, _, _, _,
    ⟨fun n k p q => F.h0 (ix4 n k p q), fun o k => F.h1 (ix2 o k), fun o => F.h2 (ix1 o), fun o k => F.h3 (ix2 o k), fun o => F.h4 (ix1 o), fun o => F.h7 (ix1 o), fun o => F.h8 (ix1 o), fun o k => F.h9 (ix2 o k), fun o => F.h10 (ix1 o), fun o k => F.h11 (ix2 o k), fun o => F.h12 (ix1 o)⟩⟩

end Cert.KernelIdeal.Value

namespace Cert.ReferenceIdeal.Value

open Cert.ReferenceIdeal Cert.ReferenceIdeal.Gen Cert.Block

/-- The two memories agree on the arguments. -/
abbrev Agree (m : (ℓ : Loc Cert.KernelIdeal.nD Cert.KernelIdeal.τ Cert.KernelIdeal.sig) → Buf (Elt Ideal) ℓ)
    (m' : (ℓ : Loc nD τ sig) → Buf (Elt Ideal) ℓ) (c : Dev nD) : Prop :=
  m' ((c.tc : Thread nD τ).loc main_arg0) = m ((c.tc : Thread Cert.KernelIdeal.nD Cert.KernelIdeal.τ).loc Cert.KernelIdeal.main_arg0)
  ∧ m' ((c.tc : Thread nD τ).loc main_arg1) = m ((c.tc : Thread Cert.KernelIdeal.nD Cert.KernelIdeal.τ).loc Cert.KernelIdeal.main_arg1)
  ∧ m' ((c.tc : Thread nD τ).loc main_arg2) = m ((c.tc : Thread Cert.KernelIdeal.nD Cert.KernelIdeal.τ).loc Cert.KernelIdeal.main_arg2)
  ∧ m' ((c.tc : Thread nD τ).loc main_arg3) = m ((c.tc : Thread Cert.KernelIdeal.nD Cert.KernelIdeal.τ).loc Cert.KernelIdeal.main_arg3)
  ∧ m' ((c.tc : Thread nD τ).loc main_arg4) = m ((c.tc : Thread Cert.KernelIdeal.nD Cert.KernelIdeal.τ).loc Cert.KernelIdeal.main_arg4)
  ∧ m' ((c.tc : Thread nD τ).loc main_arg5) = m ((c.tc : Thread Cert.KernelIdeal.nD Cert.KernelIdeal.τ).loc Cert.KernelIdeal.main_arg5)
  ∧ m' ((c.tc : Thread nD τ).loc main_arg6) = m ((c.tc : Thread Cert.KernelIdeal.nD Cert.KernelIdeal.τ).loc Cert.KernelIdeal.main_arg6)
  ∧ m' ((c.tc : Thread nD τ).loc main_arg7) = m ((c.tc : Thread Cert.KernelIdeal.nD Cert.KernelIdeal.τ).loc Cert.KernelIdeal.main_arg7)
  ∧ m' ((c.tc : Thread nD τ).loc main_arg8) = m ((c.tc : Thread Cert.KernelIdeal.nD Cert.KernelIdeal.τ).loc Cert.KernelIdeal.main_arg8)
  ∧ m' ((c.tc : Thread nD τ).loc main_arg9) = m ((c.tc : Thread Cert.KernelIdeal.nD Cert.KernelIdeal.τ).loc Cert.KernelIdeal.main_arg9)
  ∧ m' ((c.tc : Thread nD τ).loc main_arg10) = m ((c.tc : Thread Cert.KernelIdeal.nD Cert.KernelIdeal.τ).loc Cert.KernelIdeal.main_arg10)
  ∧ m' ((c.tc : Thread nD τ).loc main_arg11) = m ((c.tc : Thread Cert.KernelIdeal.nD Cert.KernelIdeal.τ).loc Cert.KernelIdeal.main_arg11)
  ∧ m' ((c.tc : Thread nD τ).loc main_arg12) = m ((c.tc : Thread Cert.KernelIdeal.nD Cert.KernelIdeal.τ).loc Cert.KernelIdeal.main_arg12)
  ∧ m' ((c.tc : Thread nD τ).loc main_arg13) = m ((c.tc : Thread Cert.KernelIdeal.nD Cert.KernelIdeal.τ).loc Cert.KernelIdeal.main_arg13)
  ∧ m' ((c.tc : Thread nD τ).loc main_arg14) = m ((c.tc : Thread Cert.KernelIdeal.nD Cert.KernelIdeal.τ).loc Cert.KernelIdeal.main_arg14)

/-- Where the memories agree, the reference's result is the kernel's. -/
theorem result_eq (m : (ℓ : Loc Cert.KernelIdeal.nD Cert.KernelIdeal.τ Cert.KernelIdeal.sig) → Buf (Elt Ideal) ℓ) (ρ : Dev Cert.KernelIdeal.nD → PrngReg)
    (m' : (ℓ : Loc nD τ sig) → Buf (Elt Ideal) ℓ) (c : Dev nD)
    (hpre : Cert.Pre_KernelIdeal_finite_inputs (hPre_finite_inputs := preFacts) m) (hag : Agree m m' c) :
    (addf (addf (mulf (Host.divf (subf (Value.res_main_v133 (StableHlo.launchContents m' c)) (broadcastInDim S2x384x112x112 ![0, 1, 2, 3] bcast_S2x1x1x1_S2x384x112x112_0_1_2_3 (Host.divf (broadcastInDim S2x1x1x1 ![0] bcast_S2_S2x1x1x1_0 (Host.reduceAdd (Value.res_main_v133 (StableHlo.launchContents m' c)) (constant S_ .f32 0x00000000#32) reducesTo_S2x384x112x112_S2_d1_2_3 h_S_)) (broadcastInDim S2x1x1x1 ![] bcast_S_S2x1x1x1 (constant S_ .f32 0x4A930000#32))))) (broadcastInDim S2x384x112x112 ![0, 1, 2, 3] bcast_S2x1x1x1_S2x384x112x112_0_1_2_3 (Host.sqrt (addf (select (broadcastInDim S2x1x1x1 ![] bcast_S_S2x1x1x1 (cmpf .ogt (Value.res_main_call4_v8 (StableHlo.launchContents m' c)) (constant S_ .f32 0x00000000#32))) (Host.divf (broadcastInDim S2x1x1x1 ![0] bcast_S2_S2x1x1x1_0 (Host.reduceAdd (mulf (Value.res_main_call4_v5 (StableHlo.launchContents m' c)) (Value.res_main_call4_v5 (StableHlo.launchContents m' c))) (constant S_ .f32 0x00000000#32) reducesTo_S2x384x112x112_S2_d1_2_3 h_S_)) (broadcastInDim S2x1x1x1 ![] bcast_S_S2x1x1x1 (Value.res_main_call4_v8 (StableHlo.launchContents m' c)))) (broadcastInDim S2x1x1x1 ![] bcast_S_S2x1x1x1 (id (constant S_ .f32 0x7FC00000#32)))) (broadcastInDim S2x1x1x1 ![] bcast_S_S2x1x1x1 (constant S_ .f32 0x3727C5AC#32)))))) (broadcastInDim S2x384x112x112 ![0, 1, 2, 3] bcast_S1x384x1x1_S2x384x112x112_0_1_2_3 (broadcastInDim S1x384x1x1 ![1] bcast_S384_S1x384x1x1_1 ((StableHlo.launchContents m' c) (Proc.devRef .tc main_arg13))))) (broadcastInDim S2x384x112x112 ![0, 1, 2, 3] bcast_S1x384x1x1_S2x384x112x112_0_1_2_3 (broadcastInDim S1x384x1x1 ![1] bcast_S384_S1x384x1x1_1 ((StableHlo.launchContents m' c) (Proc.devRef .tc main_arg14))))) ((StableHlo.launchContents m' c) (Proc.devRef .tc main_arg0)) : FVec Ideal S2x384x112x112 .f32)
      = Cert.KernelIdeal.Gen.W15 m ρ c (Proc.devRef .tc Cert.KernelIdeal.main_v36) := by
  obtain ⟨X, pw, pb, mw, mb, gw, gb, w0, b0, w1, b1, A⟩ := Cert.KernelIdeal.Value.args_of_pre m hpre c
  obtain ⟨h0, h1, h2, h3, h4, h5, h6, h7, h8, h9, h10, h11, h12, h13, h14⟩ := hag
  have B : Args (StableHlo.launchContents m' c) X pw pb mw mb gw gb w0 b0 w1 b1 :=
    ⟨fun n k p q => (congrFun h0 _).trans (A.x n k p q), fun o k => (congrFun h1 _).trans (A.pw o k), fun o => (congrFun h2 _).trans (A.pb o), fun o k => (congrFun h3 _).trans (A.mw o k), fun o => (congrFun h4 _).trans (A.mb o), fun o => (congrFun h7 _).trans (A.gw o), fun o => (congrFun h8 _).trans (A.gb o), fun o k => (congrFun h9 _).trans (A.w0 o k), fun o => (congrFun h10 _).trans (A.b0 o), fun o k => (congrFun h11 _).trans (A.w1 o k), fun o => (congrFun h12 _).trans (A.b1 o)⟩
  have ha : alphaOf (StableHlo.launchContents m' c) = Cert.KernelIdeal.Value.alphaOf m c := congrFun h5 _
  have hb : betaOf (StableHlo.launchContents m' c) = Cert.KernelIdeal.Value.betaOf m c := congrFun h6 _
  have hw : ∀ o, ((StableHlo.launchContents m' c) (Proc.devRef .tc main_arg13) : FVec Ideal S384 .f32) (ix1 o) = Cert.KernelIdeal.Value.lastW m c o :=
    fun o => congrFun h13 _
  have hv : ∀ o, ((StableHlo.launchContents m' c) (Proc.devRef .tc main_arg14) : FVec Ideal S384 .f32) (ix1 o) = Cert.KernelIdeal.Value.lastB m c o :=
    fun o => congrFun h14 _
  have hN : networkOf (StableHlo.launchContents m' c) X pw pb mw mb gw gb w0 b0 w1 b1 = Cert.KernelIdeal.Value.networkOf m c X pw pb mw mb gw gb w0 b0 w1 b1 := by
    funext n h w
    unfold networkOf mergedOf
    rw [ha, hb]
    rfl
  have hX : ∀ n o p q, tiles X n (tileOf p) (tileOf q) o (pixelOf p q) = X n o p q := fun n o p q => by
    simp only [tiles, rowAt_of, colAt_of]
  have key : ∀ (n : Fin 2) (o : Fin 384) (p q : Fin 112),
      (normed (networkOf (StableHlo.launchContents m' c) X pw pb mw mb gw gb w0 b0 w1 b1 n) (tileOf p) (tileOf q) o (pixelOf p q) : EReal)
          * ((StableHlo.launchContents m' c) (Proc.devRef .tc main_arg13) : FVec Ideal S384 .f32) (ix1 o)
        + ((StableHlo.launchContents m' c) (Proc.devRef .tc main_arg14) : FVec Ideal S384 .f32) (ix1 o) + (X n o p q : EReal)
      = Cert.KernelIdeal.Value.finished (Cert.KernelIdeal.Value.networkOf m c X pw pb mw mb gw gb w0 b0 w1 b1) (tiles X)
          (Cert.KernelIdeal.Value.lastW m c) (Cert.KernelIdeal.Value.lastB m c) n (tileOf p) (tileOf q) o (pixelOf p q) := fun n o p q => by
    rw [hw, hv, hN]
    unfold Cert.KernelIdeal.Value.finished
    rw [hX]
  funext i
  rw [ValueIdx.eq_ix4 i]
  exact ((result_at B (second_norm B) _ _ _ _).trans (key _ _ _ _)).trans (Cert.KernelIdeal.Value.result_at ρ A _ _ _ _).symm

end Cert.ReferenceIdeal.Value

end
-- ==== Proof.lean ====
/- The claims' proof: the three programs run to the end with their arguments unchanged, and the idealised kernel and the
   reference end with the same array. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Equal

@[expose] public section

noncomputable section

namespace Cert.Proof

open Idealize.ShloMosaic Idealize.SL.Sem

/-- The reference runs to the end with its arguments and every counter as they were. -/
theorem reference_quiescent : quiescent_ReferenceIdeal (hReferenceIdeal := Cert.ReferenceIdeal.Gen.facts) :=
  fun m ρ _ => (θ_run Cert.ReferenceIdeal.defs _ _).mono (fun _ h => ⟨fun c => (h c).2, funext fun s => nomatch s⟩) (Cert.ReferenceIdeal.Value.run m ρ)

/-- From the same finite inputs the idealised kernel and the reference end with the same array. -/
theorem value : algebraic_KernelIdeal_ReferenceIdeal_pre_finite_inputs (hKernelIdeal := Cert.KernelIdeal.Gen.facts)
    (hReferenceIdeal := Cert.ReferenceIdeal.Gen.facts) (hPre_finite_inputs := Cert.Block.preFacts) := by
  intro m g m' g' hpre hag
  refine ⟨fun c => Cert.KernelIdeal.Gen.W15 m g c (Proc.devRef .tc Cert.KernelIdeal.main_v36), ?_, ?_⟩
  · refine (θ_run _ _ _).mono (fun r h c => ?_) (Cert.KernelIdeal.Value.run_result m g)
    exact ⟨(h c).1, (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide)⟩
  · refine (θ_run _ _ _).mono (fun r h c => ?_) (Cert.ReferenceIdeal.Value.run m' g')
    exact ⟨(h c).1.trans (Cert.ReferenceIdeal.Value.result_eq m g m' c hpre (hag c)), (h c).2⟩

/-- The claims: the three programs' frames, the idealization, and the equality of the two results. -/
theorem claim : Cert.Claim :=
  ⟨Cert.Kernel.Gen.facts, Cert.KernelIdeal.Gen.facts, Cert.ReferenceIdeal.Gen.facts, Cert.Block.preFacts,
    fun m ρ _ => Cert.Kernel.Gen.frame m ρ, fun m ρ _ => Cert.KernelIdeal.Gen.frame m ρ, fun m ρ _ => Cert.KernelIdeal.Gen.frame m ρ,
    reference_quiescent, fun m ρ _ => reference_quiescent m ρ trivial, trivial, value⟩

end Cert.Proof

end
